-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grid_graph [hPre_grid_graph : Cert.Pre_grid_graph.Facts] (m : (ℓ : Loc Cert.KernelIdeal.nD Cert.KernelIdeal.τ Cert.KernelIdeal.sig) → Buf (Elt Ideal) ℓ) : Prop :=
  ∀ c : Dev Cert.KernelIdeal.nD,
    (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2.2.2.2.1 = (fun _ => 1#1)
    ∧ (Cert.Pre_grid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grid_graph [hPre_grid_graph : Cert.Pre_grid_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2.2.2.2.1 = (fun _ => 1#1)
    ∧ (Cert.Pre_grid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_grid_graph [hKernelIdeal : Cert.KernelIdeal.Facts] [hPre_grid_graph : Cert.Pre_grid_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grid_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_grid_graph [hReferenceIdeal : Cert.ReferenceIdeal.Facts] [hPre_grid_graph : Cert.Pre_grid_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grid_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "inv_n" .f32 0x3AE38E39#32 ((1 / 576 : ℝ) : EReal)

def algebraic_KernelIdeal_ReferenceIdeal_pre_grid_graph [hKernelIdeal : Cert.KernelIdeal.Facts] [hReferenceIdeal : Cert.ReferenceIdeal.Facts] [hPre_grid_graph : Cert.Pre_grid_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grid_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_grid_graph : Cert.Pre_grid_graph.Facts),
    quiescent_Kernel (hKernel := hKernel)
    ∧ quiescent_KernelIdeal (hKernelIdeal := hKernelIdeal)
    ∧ quiescent_KernelIdeal_pre_grid_graph (hKernelIdeal := hKernelIdeal) (hPre_grid_graph := hPre_grid_graph)
    ∧ quiescent_ReferenceIdeal (hReferenceIdeal := hReferenceIdeal)
    ∧ quiescent_ReferenceIdeal_pre_grid_graph (hReferenceIdeal := hReferenceIdeal) (hPre_grid_graph := hPre_grid_graph)
    ∧ preserves_Kernel_KernelIdeal
    ∧ algebraic_KernelIdeal_ReferenceIdeal_pre_grid_graph (hKernelIdeal := hKernelIdeal) (hReferenceIdeal := hReferenceIdeal) (hPre_grid_graph := hPre_grid_graph)
-- ==== Pre_grid_graph.lean ====
abbrev S147456x1 : Shape := ⟨2, ![147456, 1]⟩
abbrev S2x552960 : Shape := ⟨2, ![2, 552960]⟩
abbrev S552960x2 : Shape := ⟨2, ![552960, 2]⟩
abbrev S147456 : Shape := ⟨1, ![147456]⟩
abbrev S1x8 : Shape := ⟨2, ![1, 8]⟩
abbrev S8 : Shape := ⟨1, ![8]⟩
abbrev S8x16 : Shape := ⟨2, ![8, 16]⟩
abbrev S2x16 : Shape := ⟨2, ![2, 16]⟩
abbrev S16 : Shape := ⟨1, ![16]⟩
abbrev S16x16 : Shape := ⟨2, ![16, 16]⟩
abbrev S16x32 : Shape := ⟨2, ![16, 32]⟩
abbrev S2x32 : Shape := ⟨2, ![2, 32]⟩
abbrev S32 : Shape := ⟨1, ![32]⟩
abbrev S32x1536 : Shape := ⟨2, ![32, 1536]⟩
abbrev S512x32 : Shape := ⟨2, ![512, 32]⟩
abbrev S138240 : Shape := ⟨1, ![138240]⟩
abbrev S_ : Shape := ⟨0, ![]⟩
abbrev S2x4x138240 : Shape := ⟨3, ![2, 4, 138240]⟩
abbrev S1x4x138240 : Shape := ⟨3, ![1, 4, 138240]⟩
abbrev S4x138240 : Shape := ⟨2, ![4, 138240]⟩
abbrev S4x138240x2 : Shape := ⟨3, ![4, 138240, 2]⟩
abbrev S1x138240 : Shape := ⟨2, ![1, 138240]⟩
abbrev S4x1x2 : Shape := ⟨3, ![4, 1, 2]⟩

class Facts : Prop where
  bcast_S_S138240 : S_.BroadcastsInDim S138240 (![] : Fin 0 → Fin S138240.rank)
  shapeCasts_S2x552960_S2x4x138240 : S2x552960.ShapeCasts S2x4x138240
  slices_S2x4x138240_S1x4x138240_0_0_0 : S2x4x138240.Slices ![0, 0, 0] S1x4x138240
  shapeCasts_S1x4x138240_S4x138240 : S1x4x138240.ShapeCasts S4x138240
  slices_S2x4x138240_S1x4x138240_1_0_0 : S2x4x138240.Slices ![1, 0, 0] S1x4x138240
  bcast_S_S147456 : S_.BroadcastsInDim S147456 (![] : Fin 0 → Fin S147456.rank)
  shapeCasts_S552960x2_S4x138240x2 : S552960x2.ShapeCasts S4x138240x2
  slices_S4x138240_S1x138240_0_0 : S4x138240.Slices ![0, 0] S1x138240
  shapeCasts_S1x138240_S138240 : S1x138240.ShapeCasts S138240
  slices_S4x138240_S1x138240_1_0 : S4x138240.Slices ![1, 0] S1x138240
  slices_S4x138240_S1x138240_2_0 : S4x138240.Slices ![2, 0] S1x138240
  slices_S4x138240_S1x138240_3_0 : S4x138240.Slices ![3, 0] S1x138240
  slices_S4x138240x2_S4x1x2_0_0_0 : S4x138240x2.Slices ![0, 0, 0] S4x1x2
  bcast_S4x1x2_S4x138240x2_0_1_2 : S4x1x2.BroadcastsInDim S4x138240x2 (![0, 1, 2] : Fin 3 → Fin S4x138240x2.rank)
  bcast_S_S147456x1 : S_.BroadcastsInDim S147456x1 (![] : Fin 0 → Fin S147456x1.rank)
  bcast_S_S1x8 : S_.BroadcastsInDim S1x8 (![] : Fin 0 → Fin S1x8.rank)
  bcast_S_S8 : S_.BroadcastsInDim S8 (![] : Fin 0 → Fin S8.rank)
  bcast_S_S8x16 : S_.BroadcastsInDim S8x16 (![] : Fin 0 → Fin S8x16.rank)
  bcast_S_S16 : S_.BroadcastsInDim S16 (![] : Fin 0 → Fin S16.rank)
  bcast_S_S16x16 : S_.BroadcastsInDim S16x16 (![] : Fin 0 → Fin S16x16.rank)
  bcast_S_S16x32 : S_.BroadcastsInDim S16x32 (![] : Fin 0 → Fin S16x32.rank)
  bcast_S_S32 : S_.BroadcastsInDim S32 (![] : Fin 0 → Fin S32.rank)
  bcast_S_S32x1536 : S_.BroadcastsInDim S32x1536 (![] : Fin 0 → Fin S32x1536.rank)
  bcast_S_S512x32 : S_.BroadcastsInDim S512x32 (![] : Fin 0 → Fin S512x32.rank)

variable [Facts]

def fn_part5 {F : FTy → Type} [FloatOps F] (main_arg15 : FVec F S16x32 .f32) (main_arg17 : FVec F S32 .f32) (main_arg18 : FVec F S32x1536 .f32) (main_arg19 : FVec F S512x32 .f32) (main_v33 : IVec S138240 1) (main_v38 : IVec S138240 1) (main_v43 : IVec S138240 1) (main_v46 : IVec S138240 1) (main_v49 : IVec S138240 1) (main_v54 : IVec S138240 1) (main_v59 : IVec S138240 1) (main_v62 : IVec S138240 1) (main_v63 : IVec S147456 1) (main_v66 : IVec S4x138240x2 1) (main_v69 : IVec S147456x1 1) (main_v72 : IVec S1x8 1) (main_v75 : IVec S8 1) (main_v78 : IVec S8x16 1) (main_v81 : IVec S8x16 1) (main_v84 : IVec S16 1) (main_v87 : IVec S16x16 1) (main_v90 : IVec S16x16 1) (main_v93 : IVec S16 1) (main_v94 : FVec F S16x32 .f32) (main_v95 : FVec F S16x32 .f32) : IVec S138240 1 × IVec S138240 1 × IVec S138240 1 × IVec S138240 1 × IVec S138240 1 × IVec S138240 1 × IVec S138240 1 × IVec S138240 1 × IVec S147456 1 × IVec S4x138240x2 1 × IVec S147456x1 1 × IVec S1x8 1 × IVec S8 1 × IVec S8x16 1 × IVec S8x16 1 × IVec S16 1 × IVec S16x16 1 × IVec S16x16 1 × IVec S16 1 × IVec S16x32 1 × IVec S16x32 1 × IVec S32 1 × IVec S32x1536 1 × IVec S512x32 1 :=
  let main_v96 : IVec S16x32 1 := cmpf .olt main_v94 main_v95
  let main_v97 : FVec F S16x32 .f32 := Host.absf main_arg15
  let main_cst_22 : FVec F S_ .f32 := constant S_ .f32 0x7F800000#32
  let main_v98 : FVec F S16x32 .f32 := broadcastInDim S16x32 ![] bcast_S_S16x32 main_cst_22
  let main_v99 : IVec S16x32 1 := cmpf .olt main_v97 main_v98
  let main_v100 : FVec F S32 .f32 := Host.absf main_arg17
  let main_cst_23 : FVec F S_ .f32 := constant S_ .f32 0x7F800000#32
  let main_v101 : FVec F S32 .f32 := broadcastInDim S32 ![] bcast_S_S32 main_cst_23
  let main_v102 : IVec S32 1 := cmpf .olt main_v100 main_v101
  let main_v103 : FVec F S32x1536 .f32 := Host.absf main_arg18
  let main_cst_24 : FVec F S_ .f32 := constant S_ .f32 0x7F800000#32
  let main_v104 : FVec F S32x1536 .f32 := broadcastInDim S32x1536 ![] bcast_S_S32x1536 main_cst_24
  let main_v105 : IVec S32x1536 1 := cmpf .olt main_v103 main_v104
  let main_v106 : FVec F S512x32 .f32 := Host.absf main_arg19
  let main_cst_25 : FVec F S_ .f32 := constant S_ .f32 0x7F800000#32
  let main_v107 : FVec F S512x32 .f32 := broadcastInDim S512x32 ![] bcast_S_S512x32 main_cst_25
  let main_v108 : IVec S512x32 1 := cmpf .olt main_v106 main_v107
  (main_v33, main_v38, main_v43, main_v46, main_v49, main_v54, main_v59, main_v62, main_v63, main_v66, main_v69, main_v72, main_v75, main_v78, main_v81, main_v84, main_v87, main_v90, main_v93, main_v96, main_v99, main_v102, main_v105, main_v108)

def fn_part4 {F : FTy → Type} [FloatOps F] (main_arg7 : FVec F S8x16 .f32) (main_arg9 : FVec F S16 .f32) (main_arg10 : FVec F S16x16 .f32) (main_arg11 : FVec F S16x16 .f32) (main_arg13 : FVec F S16 .f32) (main_arg14 : FVec F S16x32 .f32) (main_arg15 : FVec F S16x32 .f32) (main_arg17 : FVec F S32 .f32) (main_arg18 : FVec F S32x1536 .f32) (main_arg19 : FVec F S512x32 .f32) (main_v33 : IVec S138240 1) (main_v38 : IVec S138240 1) (main_v43 : IVec S138240 1) (main_v46 : IVec S138240 1) (main_v49 : IVec S138240 1) (main_v54 : IVec S138240 1) (main_v59 : IVec S138240 1) (main_v62 : IVec S138240 1) (main_v63 : IVec S147456 1) (main_v66 : IVec S4x138240x2 1) (main_v69 : IVec S147456x1 1) (main_v72 : IVec S1x8 1) (main_v75 : IVec S8 1) (main_v76 : FVec F S8x16 .f32) (main_v77 : FVec F S8x16 .f32) : IVec S138240 1 × IVec S138240 1 × IVec S138240 1 × IVec S138240 1 × IVec S138240 1 × IVec S138240 1 × IVec S138240 1 × IVec S138240 1 × IVec S147456 1 × IVec S4x138240x2 1 × IVec S147456x1 1 × IVec S1x8 1 × IVec S8 1 × IVec S8x16 1 × IVec S8x16 1 × IVec S16 1 × IVec S16x16 1 × IVec S16x16 1 × IVec S16 1 × IVec S16x32 1 × IVec S16x32 1 × IVec S32 1 × IVec S32x1536 1 × IVec S512x32 1 :=
  let main_v78 : IVec S8x16 1 := cmpf .olt main_v76 main_v77
  let main_v79 : FVec F S8x16 .f32 := Host.absf main_arg7
  let main_cst_16 : FVec F S_ .f32 := constant S_ .f32 0x7F800000#32
  let main_v80 : FVec F S8x16 .f32 := broadcastInDim S8x16 ![] bcast_S_S8x16 main_cst_16
  let main_v81 : IVec S8x16 1 := cmpf .olt main_v79 main_v80
  let main_v82 : FVec F S16 .f32 := Host.absf main_arg9
  let main_cst_17 : FVec F S_ .f32 := constant S_ .f32 0x7F800000#32
  let main_v83 : FVec F S16 .f32 := broadcastInDim S16 ![] bcast_S_S16 main_cst_17
  let main_v84 : IVec S16 1 := cmpf .olt main_v82 main_v83
  let main_v85 : FVec F S16x16 .f32 := Host.absf main_arg10
  let main_cst_18 : FVec F S_ .f32 := constant S_ .f32 0x7F800000#32
  let main_v86 : FVec F S16x16 .f32 := broadcastInDim S16x16 ![] bcast_S_S16x16 main_cst_18
  let main_v87 : IVec S16x16 1 := cmpf .olt main_v85 main_v86
  let main_v88 : FVec F S16x16 .f32 := Host.absf main_arg11
  let main_cst_19 : FVec F S_ .f32 := constant S_ .f32 0x7F800000#32
  let main_v89 : FVec F S16x16 .f32 := broadcastInDim S16x16 ![] bcast_S_S16x16 main_cst_19
  let main_v90 : IVec S16x16 1 := cmpf .olt main_v88 main_v89
  let main_v91 : FVec F S16 .f32 := Host.absf main_arg13
  let main_cst_20 : FVec F S_ .f32 := constant S_ .f32 0x7F800000#32
  let main_v92 : FVec F S16 .f32 := broadcastInDim S16 ![] bcast_S_S16 main_cst_20
  let main_v93 : IVec S16 1 := cmpf .olt main_v91 main_v92
  let main_v94 : FVec F S16x32 .f32 := Host.absf main_arg14
  let main_cst_21 : FVec F S_ .f32 := constant S_ .f32 0x7F800000#32
  let main_v95 : FVec F S16x32 .f32 := broadcastInDim S16x32 ![] bcast_S_S16x32 main_cst_21
  fn_part5 (F := F) main_arg15 main_arg17 main_arg18 main_arg19 main_v33 main_v38 main_v43 main_v46 main_v49 main_v54 main_v59 main_v62 main_v63 main_v66 main_v69 main_v72 main_v75 main_v78 main_v81 main_v84 main_v87 main_v90 main_v93 main_v94 main_v95

def fn_part3 {F : FTy → Type} [FloatOps F] (main_arg0 : FVec F S147456x1 .f32) (main_arg3 : IVec S147456 32) (main_arg4 : FVec F S1x8 .f32) (main_arg5 : FVec F S8 .f32) (main_arg6 : FVec F S8x16 .f32) (main_arg7 : FVec F S8x16 .f32) (main_arg9 : FVec F S16 .f32) (main_arg10 : FVec F S16x16 .f32) (main_arg11 : FVec F S16x16 .f32) (main_arg13 : FVec F S16 .f32) (main_arg14 : FVec F S16x32 .f32) (main_arg15 : FVec F S16x32 .f32) (main_arg17 : FVec F S32 .f32) (main_arg18 : FVec F S32x1536 .f32) (main_arg19 : FVec F S512x32 .f32) (main_v14 : IVec S138240 32) (main_v19 : IVec S4x138240 32) (main_v29 : IVec S147456 32) (main_v30 : FVec F S4x138240x2 .f32) (main_v33 : IVec S138240 1) (main_v38 : IVec S138240 1) (main_v43 : IVec S138240 1) (main_v46 : IVec S138240 1) (main_v49 : IVec S138240 1) (main_v54 : IVec S138240 1) (main_v56 : IVec S138240 32) (main_v57 : IVec S138240 32) : IVec S138240 1 × IVec S138240 1 × IVec S138240 1 × IVec S138240 1 × IVec S138240 1 × IVec S138240 1 × IVec S138240 1 × IVec S138240 1 × IVec S147456 1 × IVec S4x138240x2 1 × IVec S147456x1 1 × IVec S1x8 1 × IVec S8 1 × IVec S8x16 1 × IVec S8x16 1 × IVec S16 1 × IVec S16x16 1 × IVec S16x16 1 × IVec S16 1 × IVec S16x32 1 × IVec S16x32 1 × IVec S32 1 × IVec S32x1536 1 × IVec S512x32 1 :=
  let main_v58 : IVec S138240 32 := addi main_v14 main_v57
  let main_v59 : IVec S138240 1 := cmpi .eq main_v56 main_v58
  let main_v60 : IVec S1x138240 32 := (extractStridedSlice S1x138240 ![3, 0] · slices_S4x138240_S1x138240_3_0) main_v19
  let main_v61 : IVec S138240 32 := shapeCast S138240 main_v60 shapeCasts_S1x138240_S138240
  let main_v62 : IVec S138240 1 := cmpi .eq main_v61 main_v14
  let main_v63 : IVec S147456 1 := cmpi .eq main_arg3 main_v29
  let main_v64 : FVec F S4x1x2 .f32 := (extractStridedSlice S4x1x2 ![0, 0, 0] · slices_S4x138240x2_S4x1x2_0_0_0) main_v30
  let main_v65 : FVec F S4x138240x2 .f32 := broadcastInDim S4x138240x2 ![0, 1, 2] bcast_S4x1x2_S4x138240x2_0_1_2 main_v64
  let main_v66 : IVec S4x138240x2 1 := cmpf .oeq main_v30 main_v65
  let main_v67 : FVec F S147456x1 .f32 := Host.absf main_arg0
  let main_cst : FVec F S_ .f32 := constant S_ .f32 0x7F800000#32
  let main_v68 : FVec F S147456x1 .f32 := broadcastInDim S147456x1 ![] bcast_S_S147456x1 main_cst
  let main_v69 : IVec S147456x1 1 := cmpf .olt main_v67 main_v68
  let main_v70 : FVec F S1x8 .f32 := Host.absf main_arg4
  let main_cst_13 : FVec F S_ .f32 := constant S_ .f32 0x7F800000#32
  let main_v71 : FVec F S1x8 .f32 := broadcastInDim S1x8 ![] bcast_S_S1x8 main_cst_13
  let main_v72 : IVec S1x8 1 := cmpf .olt main_v70 main_v71
  let main_v73 : FVec F S8 .f32 := Host.absf main_arg5
  let main_cst_14 : FVec F S_ .f32 := constant S_ .f32 0x7F800000#32
  let main_v74 : FVec F S8 .f32 := broadcastInDim S8 ![] bcast_S_S8 main_cst_14
  let main_v75 : IVec S8 1 := cmpf .olt main_v73 main_v74
  let main_v76 : FVec F S8x16 .f32 := Host.absf main_arg6
  let main_cst_15 : FVec F S_ .f32 := constant S_ .f32 0x7F800000#32
  let main_v77 : FVec F S8x16 .f32 := broadcastInDim S8x16 ![] bcast_S_S8x16 main_cst_15
  fn_part4 (F := F) main_arg7 main_arg9 main_arg10 main_arg11 main_arg13 main_arg14 main_arg15 main_arg17 main_arg18 main_arg19 main_v33 main_v38 main_v43 main_v46 main_v49 main_v54 main_v59 main_v62 main_v63 main_v66 main_v69 main_v72 main_v75 main_v76 main_v77

def fn_part2 {F : FTy → Type} [FloatOps F] (main_arg0 : FVec F S147456x1 .f32) (main_arg3 : IVec S147456 32) (main_arg4 : FVec F S1x8 .f32) (main_arg5 : FVec F S8 .f32) (main_arg6 : FVec F S8x16 .f32) (main_arg7 : FVec F S8x16 .f32) (main_arg9 : FVec F S16 .f32) (main_arg10 : FVec F S16x16 .f32) (main_arg11 : FVec F S16x16 .f32) (main_arg13 : FVec F S16 .f32) (main_arg14 : FVec F S16x32 .f32) (main_arg15 : FVec F S16x32 .f32) (main_arg17 : FVec F S32 .f32) (main_arg18 : FVec F S32x1536 .f32) (main_arg19 : FVec F S512x32 .f32) (main_v7 : IVec S138240 32) (main_v14 : IVec S138240 32) (main_v17 : IVec S4x138240 32) (main_v19 : IVec S4x138240 32) (main_v29 : IVec S147456 32) (main_v30 : FVec F S4x138240x2 .f32) (main_v33 : IVec S138240 1) (main_v35 : IVec S138240 32) (main_v36 : IVec S138240 32) : IVec S138240 1 × IVec S138240 1 × IVec S138240 1 × IVec S138240 1 × IVec S138240 1 × IVec S138240 1 × IVec S138240 1 × IVec S138240 1 × IVec S147456 1 × IVec S4x138240x2 1 × IVec S147456x1 1 × IVec S1x8 1 × IVec S8 1 × IVec S8x16 1 × IVec S8x16 1 × IVec S16 1 × IVec S16x16 1 × IVec S16x16 1 × IVec S16 1 × IVec S16x32 1 × IVec S16x32 1 × IVec S32 1 × IVec S32x1536 1 × IVec S512x32 1 :=
  let main_v37 : IVec S138240 32 := addi main_v7 main_v36
  let main_v38 : IVec S138240 1 := cmpi .eq main_v35 main_v37
  let main_v39 : IVec S1x138240 32 := (extractStridedSlice S1x138240 ![1, 0] · slices_S4x138240_S1x138240_1_0) main_v17
  let main_v40 : IVec S138240 32 := shapeCast S138240 main_v39 shapeCasts_S1x138240_S138240
  let main_c_10 : IVec S_ 32 := constantI S_ 32 1#32
  let main_v41 : IVec S138240 32 := broadcastInDim S138240 ![] bcast_S_S138240 main_c_10
  let main_v42 : IVec S138240 32 := addi main_v7 main_v41
  let main_v43 : IVec S138240 1 := cmpi .eq main_v40 main_v42
  let main_v44 : IVec S1x138240 32 := (extractStridedSlice S1x138240 ![1, 0] · slices_S4x138240_S1x138240_1_0) main_v19
  let main_v45 : IVec S138240 32 := shapeCast S138240 main_v44 shapeCasts_S1x138240_S138240
  let main_v46 : IVec S138240 1 := cmpi .eq main_v45 main_v7
  let main_v47 : IVec S1x138240 32 := (extractStridedSlice S1x138240 ![2, 0] · slices_S4x138240_S1x138240_2_0) main_v17
  let main_v48 : IVec S138240 32 := shapeCast S138240 main_v47 shapeCasts_S1x138240_S138240
  let main_v49 : IVec S138240 1 := cmpi .eq main_v48 main_v14
  let main_v50 : IVec S1x138240 32 := (extractStridedSlice S1x138240 ![2, 0] · slices_S4x138240_S1x138240_2_0) main_v19
  let main_v51 : IVec S138240 32 := shapeCast S138240 main_v50 shapeCasts_S1x138240_S138240
  let main_c_11 : IVec S_ 32 := constantI S_ 32 384#32
  let main_v52 : IVec S138240 32 := broadcastInDim S138240 ![] bcast_S_S138240 main_c_11
  let main_v53 : IVec S138240 32 := addi main_v14 main_v52
  let main_v54 : IVec S138240 1 := cmpi .eq main_v51 main_v53
  let main_v55 : IVec S1x138240 32 := (extractStridedSlice S1x138240 ![3, 0] · slices_S4x138240_S1x138240_3_0) main_v17
  let main_v56 : IVec S138240 32 := shapeCast S138240 main_v55 shapeCasts_S1x138240_S138240
  let main_c_12 : IVec S_ 32 := constantI S_ 32 384#32
  let main_v57 : IVec S138240 32 := broadcastInDim S138240 ![] bcast_S_S138240 main_c_12
  fn_part3 (F := F) main_arg0 main_arg3 main_arg4 main_arg5 main_arg6 main_arg7 main_arg9 main_arg10 main_arg11 main_arg13 main_arg14 main_arg15 main_arg17 main_arg18 main_arg19 main_v14 main_v19 main_v29 main_v30 main_v33 main_v38 main_v43 main_v46 main_v49 main_v54 main_v56 main_v57

def fn_part1 {F : FTy → Type} [FloatOps F] (main_arg0 : FVec F S147456x1 .f32) (main_arg2 : FVec F S552960x2 .f32) (main_arg3 : IVec S147456 32) (main_arg4 : FVec F S1x8 .f32) (main_arg5 : FVec F S8 .f32) (main_arg6 : FVec F S8x16 .f32) (main_arg7 : FVec F S8x16 .f32) (main_arg9 : FVec F S16 .f32) (main_arg10 : FVec F S16x16 .f32) (main_arg11 : FVec F S16x16 .f32) (main_arg13 : FVec F S16 .f32) (main_arg14 : FVec F S16x32 .f32) (main_arg15 : FVec F S16x32 .f32) (main_arg17 : FVec F S32 .f32) (main_arg18 : FVec F S32x1536 .f32) (main_arg19 : FVec F S512x32 .f32) (main_v7 : IVec S138240 32) (main_v14 : IVec S138240 32) (main_v15 : IVec S2x4x138240 32) (main_v17 : IVec S4x138240 32) : IVec S138240 1 × IVec S138240 1 × IVec S138240 1 × IVec S138240 1 × IVec S138240 1 × IVec S138240 1 × IVec S138240 1 × IVec S138240 1 × IVec S147456 1 × IVec S4x138240x2 1 × IVec S147456x1 1 × IVec S1x8 1 × IVec S8 1 × IVec S8x16 1 × IVec S8x16 1 × IVec S16 1 × IVec S16x16 1 × IVec S16x16 1 × IVec S16 1 × IVec S16x32 1 × IVec S16x32 1 × IVec S32 1 × IVec S32x1536 1 × IVec S512x32 1 :=
  let main_v18 : IVec S1x4x138240 32 := (extractStridedSlice S1x4x138240 ![1, 0, 0] · slices_S2x4x138240_S1x4x138240_1_0_0) main_v15
  let main_v19 : IVec S4x138240 32 := shapeCast S4x138240 main_v18 shapeCasts_S1x4x138240_S4x138240
  let main_v20 : IVec S147456 32 := iotaInDim S147456 32 0
  let main_c_5 : IVec S_ 32 := constantI S_ 32 6144#32
  let main_v21 : IVec S147456 32 := broadcastInDim S147456 ![] bcast_S_S147456 main_c_5
  let main_v22 : IVec S147456 32 := Host.divsi main_v20 main_v21
  let main_c_6 : IVec S_ 32 := constantI S_ 32 24#32
  let main_v23 : IVec S147456 32 := broadcastInDim S147456 ![] bcast_S_S147456 main_c_6
  let main_v24 : IVec S147456 32 := muli main_v22 main_v23
  let main_c_7 : IVec S_ 32 := constantI S_ 32 384#32
  let main_v25 : IVec S147456 32 := broadcastInDim S147456 ![] bcast_S_S147456 main_c_7
  let main_v26 : IVec S147456 32 := Host.remsi main_v20 main_v25
  let main_c_8 : IVec S_ 32 := constantI S_ 32 16#32
  let main_v27 : IVec S147456 32 := broadcastInDim S147456 ![] bcast_S_S147456 main_c_8
  let main_v28 : IVec S147456 32 := Host.divsi main_v26 main_v27
  let main_v29 : IVec S147456 32 := addi main_v24 main_v28
  let main_v30 : FVec F S4x138240x2 .f32 := shapeCast S4x138240x2 main_arg2 shapeCasts_S552960x2_S4x138240x2
  let main_v31 : IVec S1x138240 32 := (extractStridedSlice S1x138240 ![0, 0] · slices_S4x138240_S1x138240_0_0) main_v17
  let main_v32 : IVec S138240 32 := shapeCast S138240 main_v31 shapeCasts_S1x138240_S138240
  let main_v33 : IVec S138240 1 := cmpi .eq main_v32 main_v7
  let main_v34 : IVec S1x138240 32 := (extractStridedSlice S1x138240 ![0, 0] · slices_S4x138240_S1x138240_0_0) main_v19
  let main_v35 : IVec S138240 32 := shapeCast S138240 main_v34 shapeCasts_S1x138240_S138240
  let main_c_9 : IVec S_ 32 := constantI S_ 32 1#32
  let main_v36 : IVec S138240 32 := broadcastInDim S138240 ![] bcast_S_S138240 main_c_9
  fn_part2 (F := F) main_arg0 main_arg3 main_arg4 main_arg5 main_arg6 main_arg7 main_arg9 main_arg10 main_arg11 main_arg13 main_arg14 main_arg15 main_arg17 main_arg18 main_arg19 main_v7 main_v14 main_v17 main_v19 main_v29 main_v30 main_v33 main_v35 main_v36

def fn {F : FTy → Type} [FloatOps F] (main_arg0 : FVec F S147456x1 .f32) (main_arg1 : IVec S2x552960 32) (main_arg2 : FVec F S552960x2 .f32) (main_arg3 : IVec S147456 32) (main_arg4 : FVec F S1x8 .f32) (main_arg5 : FVec F S8 .f32) (main_arg6 : FVec F S8x16 .f32) (main_arg7 : FVec F S8x16 .f32) (main_arg8 : FVec F S2x16 .f32) (main_arg9 : FVec F S16 .f32) (main_arg10 : FVec F S16x16 .f32) (main_arg11 : FVec F S16x16 .f32) (main_arg12 : FVec F S2x16 .f32) (main_arg13 : FVec F S16 .f32) (main_arg14 : FVec F S16x32 .f32) (main_arg15 : FVec F S16x32 .f32) (main_arg16 : FVec F S2x32 .f32) (main_arg17 : FVec F S32 .f32) (main_arg18 : FVec F S32x1536 .f32) (main_arg19 : FVec F S512x32 .f32) : IVec S138240 1 × IVec S138240 1 × IVec S138240 1 × IVec S138240 1 × IVec S138240 1 × IVec S138240 1 × IVec S138240 1 × IVec S138240 1 × IVec S147456 1 × IVec S4x138240x2 1 × IVec S147456x1 1 × IVec S1x8 1 × IVec S8 1 × IVec S8x16 1 × IVec S8x16 1 × IVec S16 1 × IVec S16x16 1 × IVec S16x16 1 × IVec S16 1 × IVec S16x32 1 × IVec S16x32 1 × IVec S32 1 × IVec S32x1536 1 × IVec S512x32 1 :=
  let main_v0 : IVec S138240 32 := iotaInDim S138240 32 0
  let main_c : IVec S_ 32 := constantI S_ 32 15#32
  let main_v1 : IVec S138240 32 := broadcastInDim S138240 ![] bcast_S_S138240 main_c
  let main_v2 : IVec S138240 32 := Host.divsi main_v0 main_v1
  let main_c_0 : IVec S_ 32 := constantI S_ 32 16#32
  let main_v3 : IVec S138240 32 := broadcastInDim S138240 ![] bcast_S_S138240 main_c_0
  let main_v4 : IVec S138240 32 := muli main_v2 main_v3
  let main_c_1 : IVec S_ 32 := constantI S_ 32 15#32
  let main_v5 : IVec S138240 32 := broadcastInDim S138240 ![] bcast_S_S138240 main_c_1
  let main_v6 : IVec S138240 32 := Host.remsi main_v0 main_v5
  let main_v7 : IVec S138240 32 := addi main_v4 main_v6
  let main_c_2 : IVec S_ 32 := constantI S_ 32 5760#32
  let main_v8 : IVec S138240 32 := broadcastInDim S138240 ![] bcast_S_S138240 main_c_2
  let main_v9 : IVec S138240 32 := Host.divsi main_v0 main_v8
  let main_c_3 : IVec S_ 32 := constantI S_ 32 6144#32
  let main_v10 : IVec S138240 32 := broadcastInDim S138240 ![] bcast_S_S138240 main_c_3
  let main_v11 : IVec S138240 32 := muli main_v9 main_v10
  let main_c_4 : IVec S_ 32 := constantI S_ 32 5760#32
  let main_v12 : IVec S138240 32 := broadcastInDim S138240 ![] bcast_S_S138240 main_c_4
  let main_v13 : IVec S138240 32 := Host.remsi main_v0 main_v12
  let main_v14 : IVec S138240 32 := addi main_v11 main_v13
  let main_v15 : IVec S2x4x138240 32 := shapeCast S2x4x138240 main_arg1 shapeCasts_S2x552960_S2x4x138240
  let main_v16 : IVec S1x4x138240 32 := (extractStridedSlice S1x4x138240 ![0, 0, 0] · slices_S2x4x138240_S1x4x138240_0_0_0) main_v15
  let main_v17 : IVec S4x138240 32 := shapeCast S4x138240 main_v16 shapeCasts_S1x4x138240_S4x138240
  fn_part1 (F := F) main_arg0 main_arg2 main_arg3 main_arg4 main_arg5 main_arg6 main_arg7 main_arg9 main_arg10 main_arg11 main_arg13 main_arg14 main_arg15 main_arg17 main_arg18 main_arg19 main_v7 main_v14 main_v15 main_v17
-- ==== Kernel.lean ====
abbrev S147456x1 : Shape := ⟨2, ![147456, 1]⟩
abbrev S2x552960 : Shape := ⟨2, ![2, 552960]⟩
abbrev S552960x2 : Shape := ⟨2, ![552960, 2]⟩
abbrev S147456 : Shape := ⟨1, ![147456]⟩
abbrev S1x8 : Shape := ⟨2, ![1, 8]⟩
abbrev S8 : Shape := ⟨1, ![8]⟩
abbrev S8x16 : Shape := ⟨2, ![8, 16]⟩
abbrev S2x16 : Shape := ⟨2, ![2, 16]⟩
abbrev S16 : Shape := ⟨1, ![16]⟩
abbrev S16x16 : Shape := ⟨2, ![16, 16]⟩
abbrev S16x32 : Shape := ⟨2, ![16, 32]⟩
abbrev S2x32 : Shape := ⟨2, ![2, 32]⟩
abbrev S32 : Shape := ⟨1, ![32]⟩
abbrev S32x1536 : Shape := ⟨2, ![32, 1536]⟩
abbrev S512x32 : Shape := ⟨2, ![512, 32]⟩
abbrev S4x2 : Shape := ⟨2, ![4, 2]⟩
abbrev S2x4 : Shape := ⟨2, ![2, 4]⟩
abbrev S3x1x49152 : Shape := ⟨3, ![3, 1, 49152]⟩
abbrev S8x1 : Shape := ⟨2, ![8, 1]⟩
abbrev S16x8 : Shape := ⟨2, ![16, 8]⟩
abbrev S16x2 : Shape := ⟨2, ![16, 2]⟩
abbrev S16x1 : Shape := ⟨2, ![16, 1]⟩
abbrev S32x16 : Shape := ⟨2, ![32, 16]⟩
abbrev S32x2 : Shape := ⟨2, ![32, 2]⟩
abbrev S32x1 : Shape := ⟨2, ![32, 1]⟩
abbrev S1x32 : Shape := ⟨2, ![1, 32]⟩
abbrev S1x1x49152 : Shape := ⟨3, ![1, 1, 49152]⟩
abbrev S576x32 : Shape := ⟨2, ![576, 32]⟩
abbrev S1x49152 : Shape := ⟨2, ![1, 49152]⟩
abbrev S8x49152 : Shape := ⟨2, ![8, 49152]⟩
abbrev S16x4 : Shape := ⟨2, ![16, 4]⟩
abbrev S80x8 : Shape := ⟨2, ![80, 8]⟩
abbrev S80x49152 : Shape := ⟨2, ![80, 49152]⟩
abbrev S16x49152 : Shape := ⟨2, ![16, 49152]⟩
abbrev S16x49151 : Shape := ⟨2, ![16, 49151]⟩
abbrev S16x384 : Shape := ⟨2, ![16, 384]⟩
abbrev S16x48768 : Shape := ⟨2, ![16, 48768]⟩
abbrev S80x16 : Shape := ⟨2, ![80, 16]⟩
abbrev S32x4 : Shape := ⟨2, ![32, 4]⟩
abbrev S160x16 : Shape := ⟨2, ![160, 16]⟩
abbrev S160x49152 : Shape := ⟨2, ![160, 49152]⟩
abbrev S32x49152 : Shape := ⟨2, ![32, 49152]⟩
abbrev S32x49151 : Shape := ⟨2, ![32, 49151]⟩
abbrev S32x384 : Shape := ⟨2, ![32, 384]⟩
abbrev S32x48768 : Shape := ⟨2, ![32, 48768]⟩
abbrev S384x32 : Shape := ⟨2, ![384, 32]⟩
abbrev S24x16x32 : Shape := ⟨3, ![24, 16, 32]⟩
abbrev S24x32 : Shape := ⟨2, ![24, 32]⟩
abbrev S192x32 : Shape := ⟨2, ![192, 32]⟩
abbrev S576x1536 : Shape := ⟨2, ![576, 1536]⟩
abbrev S576x1 : Shape := ⟨2, ![576, 1]⟩
abbrev S576x64 : Shape := ⟨2, ![576, 64]⟩
abbrev S576x576 : Shape := ⟨2, ![576, 576]⟩
abbrev S576 : Shape := ⟨1, ![576]⟩
abbrev S1x576 : Shape := ⟨2, ![1, 576]⟩
abbrev S1x64 : Shape := ⟨2, ![1, 64]⟩
abbrev S64x32 : Shape := ⟨2, ![64, 32]⟩

abbrev nBuf : Space → Nat
  | .hbm => 38
  | .vmem => 21
  | .smem => 0
  | _ => 0

abbrev bufTy : (tb : Table) → Fin (tcTables nBuf tb) → BufTy
  | .hbm, ⟨0, _⟩ => ⟨S147456x1, .f32⟩
  | .hbm, ⟨1, _⟩ => ⟨S2x552960, .i32⟩
  | .hbm, ⟨2, _⟩ => ⟨S552960x2, .f32⟩
  | .hbm, ⟨3, _⟩ => ⟨S147456, .i32⟩
  | .hbm, ⟨4, _⟩ => ⟨S1x8, .f32⟩
  | .hbm, ⟨5, _⟩ => ⟨S8, .f32⟩
  | .hbm, ⟨6, _⟩ => ⟨S8x16, .f32⟩
  | .hbm, ⟨7, _⟩ => ⟨S8x16, .f32⟩
  | .hbm, ⟨8, _⟩ => ⟨S2x16, .f32⟩
  | .hbm, ⟨9, _⟩ => ⟨S16, .f32⟩
  | .hbm, ⟨10, _⟩ => ⟨S16x16, .f32⟩
  | .hbm, ⟨11, _⟩ => ⟨S16x16, .f32⟩
  | .hbm, ⟨12, _⟩ => ⟨S2x16, .f32⟩
  | .hbm, ⟨13, _⟩ => ⟨S16, .f32⟩
  | .hbm, ⟨14, _⟩ => ⟨S16x32, .f32⟩
  | .hbm, ⟨15, _⟩ => ⟨S16x32, .f32⟩
  | .hbm, ⟨16, _⟩ => ⟨S2x32, .f32⟩
  | .hbm, ⟨17, _⟩ => ⟨S32, .f32⟩
  | .hbm, ⟨18, _⟩ => ⟨S32x1536, .f32⟩
  | .hbm, ⟨19, _⟩ => ⟨S512x32, .f32⟩
  | .hbm, ⟨20, _⟩ => ⟨S4x2, .f32⟩
  | .hbm, ⟨21, _⟩ => ⟨S2x4, .f32⟩
  | .hbm, ⟨22, _⟩ => ⟨S3x1x49152, .f32⟩
  | .hbm, ⟨23, _⟩ => ⟨S8x1, .f32⟩
  | .hbm, ⟨24, _⟩ => ⟨S8x1, .f32⟩
  | .hbm, ⟨25, _⟩ => ⟨S16x8, .f32⟩
  | .hbm, ⟨26, _⟩ => ⟨S16x8, .f32⟩
  | .hbm, ⟨27, _⟩ => ⟨S16x2, .f32⟩
  | .hbm, ⟨28, _⟩ => ⟨S16x1, .f32⟩
  | .hbm, ⟨29, _⟩ => ⟨S16x16, .f32⟩
  | .hbm, ⟨30, _⟩ => ⟨S16x16, .f32⟩
  | .hbm, ⟨31, _⟩ => ⟨S16x2, .f32⟩
  | .hbm, ⟨32, _⟩ => ⟨S16x1, .f32⟩
  | .hbm, ⟨33, _⟩ => ⟨S32x16, .f32⟩
  | .hbm, ⟨34, _⟩ => ⟨S32x16, .f32⟩
  | .hbm, ⟨35, _⟩ => ⟨S32x2, .f32⟩
  | .hbm, ⟨36, _⟩ => ⟨S32x1, .f32⟩
  | .hbm, ⟨37, _⟩ => ⟨S1x32, .f32⟩
  | .local _ .vmem, ⟨0, _⟩ => ⟨S1x1x49152, .f32⟩
  | .local _ .vmem, ⟨1, _⟩ => ⟨S1x1x49152, .f32⟩
  | .local _ .vmem, ⟨2, _⟩ => ⟨S2x4, .f32⟩
  | .local _ .vmem, ⟨3, _⟩ => ⟨S8x1, .f32⟩
  | .local _ .vmem, ⟨4, _⟩ => ⟨S8x1, .f32⟩
  | .local _ .vmem, ⟨5, _⟩ => ⟨S16x8, .f32⟩
  | .local _ .vmem, ⟨6, _⟩ => ⟨S16x8, .f32⟩
  | .local _ .vmem, ⟨7, _⟩ => ⟨S16x2, .f32⟩
  | .local _ .vmem, ⟨8, _⟩ => ⟨S16x1, .f32⟩
  | .local _ .vmem, ⟨9, _⟩ => ⟨S16x16, .f32⟩
  | .local _ .vmem, ⟨10, _⟩ => ⟨S16x16, .f32⟩
  | .local _ .vmem, ⟨11, _⟩ => ⟨S16x2, .f32⟩
  | .local _ .vmem, ⟨12, _⟩ => ⟨S16x1, .f32⟩
  | .local _ .vmem, ⟨13, _⟩ => ⟨S32x16, .f32⟩
  | .local _ .vmem, ⟨14, _⟩ => ⟨S32x16, .f32⟩
  | .local _ .vmem, ⟨15, _⟩ => ⟨S32x2, .f32⟩
  | .local _ .vmem, ⟨16, _⟩ => ⟨S32x1, .f32⟩
  | .local _ .vmem, ⟨17, _⟩ => ⟨S32x1536, .f32⟩
  | .local _ .vmem, ⟨18, _⟩ => ⟨S512x32, .f32⟩
  | .local _ .vmem, ⟨19, _⟩ => ⟨S1x32, .f32⟩
  | .local _ .vmem, ⟨20, _⟩ => ⟨S576x32, .f32⟩
  | _, _ => ⟨S147456x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19

abbrev nD : Nat := 1
abbrev τ : Topo := Topo.v7x

variable {F : FTy → Type} [FloatOps F]

abbrev grid0 : Pipeline.Grid := ⟨1, ![3], ![false]⟩

def k0_off1 (i : grid0.Coords) : Fin 2 → Nat :=
  let arg0 : BitVec 32 := BitVec.ofNat 32 (i 0).val
  let c192_i32 : BitVec 32 := 192#32
  let v551 : BitVec 32 := Scalar.muli arg0 c192_i32
  let v552 : Index := Scalar.indexCast v551
  let c0_75 : Index := 0#32
  ![v552.toNat, 0]
def k0_cond1 (i : grid0.Coords) : BitVec 1 :=
  let arg0 : BitVec 32 := BitVec.ofNat 32 (i 0).val
  let c2_i32 : BitVec 32 := 2#32
  let v556 : BitVec 1 := Scalar.cmpi .eq arg0 c2_i32
  let v557 : BitVec 32 := Scalar.extui v556
  let c0_i32_76 : BitVec 32 := 0#32
  let v558 : BitVec 1 := Scalar.cmpi .ne v557 c0_i32_76
  v558

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x49152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "inv_n" => some ((1 / 576 : ℝ) : EReal)
  | _ => none
-- ==== ReferenceIdeal.lean ====
abbrev S147456x1 : Shape := ⟨2, ![147456, 1]⟩
abbrev S2x552960 : Shape := ⟨2, ![2, 552960]⟩
abbrev S552960x2 : Shape := ⟨2, ![552960, 2]⟩
abbrev S147456 : Shape := ⟨1, ![147456]⟩
abbrev S1x8 : Shape := ⟨2, ![1, 8]⟩
abbrev S8 : Shape := ⟨1, ![8]⟩
abbrev S8x16 : Shape := ⟨2, ![8, 16]⟩
abbrev S2x16 : Shape := ⟨2, ![2, 16]⟩
abbrev S16 : Shape := ⟨1, ![16]⟩
abbrev S16x16 : Shape := ⟨2, ![16, 16]⟩
abbrev S16x32 : Shape := ⟨2, ![16, 32]⟩
abbrev S2x32 : Shape := ⟨2, ![2, 32]⟩
abbrev S32 : Shape := ⟨1, ![32]⟩
abbrev S32x1536 : Shape := ⟨2, ![32, 1536]⟩
abbrev S512x32 : Shape := ⟨2, ![512, 32]⟩
abbrev S147456x8 : Shape := ⟨2, ![147456, 8]⟩
abbrev S1x552960 : Shape := ⟨2, ![1, 552960]⟩
abbrev S552960 : Shape := ⟨1, ![552960]⟩
abbrev S_ : Shape := ⟨0, ![]⟩
abbrev S552960x1 : Shape := ⟨2, ![552960, 1]⟩
abbrev S552960x8 : Shape := ⟨2, ![552960, 8]⟩
abbrev S552960x16 : Shape := ⟨2, ![552960, 16]⟩
abbrev S147456x16 : Shape := ⟨2, ![147456, 16]⟩
abbrev S1x16 : Shape := ⟨2, ![1, 16]⟩
abbrev S552960x32 : Shape := ⟨2, ![552960, 32]⟩
abbrev S147456x32 : Shape := ⟨2, ![147456, 32]⟩
abbrev S1x32 : Shape := ⟨2, ![1, 32]⟩
abbrev S576 : Shape := ⟨1, ![576]⟩
abbrev S1x576 : Shape := ⟨2, ![1, 576]⟩
abbrev S147456x576 : Shape := ⟨2, ![147456, 576]⟩
abbrev S147456x576x1 : Shape := ⟨3, ![147456, 576, 1]⟩
abbrev S147456x1x32 : Shape := ⟨3, ![147456, 1, 32]⟩
abbrev S147456x576x32 : Shape := ⟨3, ![147456, 576, 32]⟩
abbrev S576x32 : Shape := ⟨2, ![576, 32]⟩
abbrev S1x576x32 : Shape := ⟨3, ![1, 576, 32]⟩
abbrev S1x576x1536 : Shape := ⟨3, ![1, 576, 1536]⟩
abbrev S1x576x512 : Shape := ⟨3, ![1, 576, 512]⟩
abbrev S1x576x8x64 : Shape := ⟨4, ![1, 576, 8, 64]⟩
abbrev S1x8x576x64 : Shape := ⟨4, ![1, 8, 576, 64]⟩
abbrev S1x8x64x576 : Shape := ⟨4, ![1, 8, 64, 576]⟩
abbrev S8x576x64 : Shape := ⟨3, ![8, 576, 64]⟩
abbrev S8x64x576 : Shape := ⟨3, ![8, 64, 576]⟩
abbrev S8x576x576 : Shape := ⟨3, ![8, 576, 576]⟩
abbrev S1x8x576x576 : Shape := ⟨4, ![1, 8, 576, 576]⟩
abbrev S1x8x576 : Shape := ⟨3, ![1, 8, 576]⟩
abbrev S1x8x576x1 : Shape := ⟨4, ![1, 8, 576, 1]⟩

abbrev nBuf : Space → Nat
  | .hbm => 226
  | .vmem => 0
  | .smem => 0
  | _ => 0

abbrev hbmTy0_0 (i : Nat) : BufTy := match i % 128 with
  | 0 => ⟨S147456x1, .f32⟩
  | 1 => ⟨S2x552960, .i32⟩
  | 2 => ⟨S552960x2, .f32⟩
  | 3 => ⟨S147456, .i32⟩
  | 4 => ⟨S1x8, .f32⟩
  | 5 => ⟨S8, .f32⟩
  | 6 => ⟨S8x16, .f32⟩
  | 7 => ⟨S8x16, .f32⟩
  | 8 => ⟨S2x16, .f32⟩
  | 9 => ⟨S16, .f32⟩
  | 10 => ⟨S16x16, .f32⟩
  | 11 => ⟨S16x16, .f32⟩
  | 12 => ⟨S2x16, .f32⟩
  | 13 => ⟨S16, .f32⟩
  | 14 => ⟨S16x32, .f32⟩
  | 15 => ⟨S16x32, .f32⟩
  | 16 => ⟨S2x32, .f32⟩
  | 17 => ⟨S32, .f32⟩
  | 18 => ⟨S32x1536, .f32⟩
  | 19 => ⟨S512x32, .f32⟩
  | 20 => ⟨S147456x8, .f32⟩
  | 21 => ⟨S1x8, .f32⟩
  | 22 => ⟨S147456x8, .f32⟩
  | 23 => ⟨S147456x8, .f32⟩
  | 24 => ⟨S1x552960, .i32⟩
  | 25 => ⟨S552960, .i32⟩
  | 26 => ⟨S1x552960, .i32⟩
  | 27 => ⟨S552960, .i32⟩
  | 28 => ⟨S_, .i32⟩
  | 29 => ⟨S552960, .i32⟩
  | 30 => ⟨S552960, .i1⟩
  | 31 => ⟨S_, .i32⟩
  | 32 => ⟨S552960, .i32⟩
  | 33 => ⟨S552960, .i32⟩
  | 34 => ⟨S552960, .i32⟩
  | 35 => ⟨S552960x1, .i32⟩
  | 36 => ⟨S552960x8, .f32⟩
  | 37 => ⟨S552960x16, .f32⟩
  | 38 => ⟨S552960x16, .f32⟩
  | 39 => ⟨S552960x16, .f32⟩
  | 40 => ⟨S552960x16, .f32⟩
  | 41 => ⟨S_, .f32⟩
  | 42 => ⟨S552960x16, .f32⟩
  | 43 => ⟨S552960x16, .f32⟩
  | 44 => ⟨S_, .f32⟩
  | 45 => ⟨S552960x16, .f32⟩
  | 46 => ⟨S552960x16, .f32⟩
  | 47 => ⟨S552960x16, .f32⟩
  | 48 => ⟨S_, .f32⟩
  | 49 => ⟨S147456x16, .f32⟩
  | 50 => ⟨S552960x1, .i32⟩
  | 51 => ⟨S147456x16, .f32⟩
  | 52 => ⟨S_, .f32⟩
  | 53 => ⟨S552960x1, .f32⟩
  | 54 => ⟨S_, .f32⟩
  | 55 => ⟨S147456x1, .f32⟩
  | 56 => ⟨S552960x1, .i32⟩
  | 57 => ⟨S147456x1, .f32⟩
  | 58 => ⟨S_, .f32⟩
  | 59 => ⟨S147456x1, .f32⟩
  | 60 => ⟨S147456x1, .f32⟩
  | 61 => ⟨S147456x16, .f32⟩
  | 62 => ⟨S147456x16, .f32⟩
  | 63 => ⟨S147456x16, .f32⟩
  | 64 => ⟨S147456x16, .f32⟩
  | 65 => ⟨S1x16, .f32⟩
  | 66 => ⟨S147456x16, .f32⟩
  | 67 => ⟨S147456x16, .f32⟩
  | 68 => ⟨S_, .f32⟩
  | 69 => ⟨S147456x16, .f32⟩
  | 70 => ⟨S147456x16, .f32⟩
  | 71 => ⟨S1x552960, .i32⟩
  | 72 => ⟨S552960, .i32⟩
  | 73 => ⟨S1x552960, .i32⟩
  | 74 => ⟨S552960, .i32⟩
  | 75 => ⟨S_, .i32⟩
  | 76 => ⟨S552960, .i32⟩
  | 77 => ⟨S552960, .i1⟩
  | 78 => ⟨S_, .i32⟩
  | 79 => ⟨S552960, .i32⟩
  | 80 => ⟨S552960, .i32⟩
  | 81 => ⟨S552960, .i32⟩
  | 82 => ⟨S552960x1, .i32⟩
  | 83 => ⟨S552960x16, .f32⟩
  | 84 => ⟨S552960x16, .f32⟩
  | 85 => ⟨S552960x16, .f32⟩
  | 86 => ⟨S552960x16, .f32⟩
  | 87 => ⟨S552960x16, .f32⟩
  | 88 => ⟨S_, .f32⟩
  | 89 => ⟨S552960x16, .f32⟩
  | 90 => ⟨S552960x16, .f32⟩
  | 91 => ⟨S_, .f32⟩
  | 92 => ⟨S552960x16, .f32⟩
  | 93 => ⟨S552960x16, .f32⟩
  | 94 => ⟨S552960x16, .f32⟩
  | 95 => ⟨S_, .f32⟩
  | 96 => ⟨S147456x16, .f32⟩
  | 97 => ⟨S552960x1, .i32⟩
  | 98 => ⟨S147456x16, .f32⟩
  | 99 => ⟨S_, .f32⟩
  | 100 => ⟨S552960x1, .f32⟩
  | 101 => ⟨S_, .f32⟩
  | 102 => ⟨S147456x1, .f32⟩
  | 103 => ⟨S552960x1, .i32⟩
  | 104 => ⟨S147456x1, .f32⟩
  | 105 => ⟨S_, .f32⟩
  | 106 => ⟨S147456x1, .f32⟩
  | 107 => ⟨S147456x1, .f32⟩
  | 108 => ⟨S147456x16, .f32⟩
  | 109 => ⟨S147456x16, .f32⟩
  | 110 => ⟨S147456x16, .f32⟩
  | 111 => ⟨S147456x16, .f32⟩
  | 112 => ⟨S1x16, .f32⟩
  | 113 => ⟨S147456x16, .f32⟩
  | 114 => ⟨S147456x16, .f32⟩
  | 115 => ⟨S_, .f32⟩
  | 116 => ⟨S147456x16, .f32⟩
  | 117 => ⟨S147456x16, .f32⟩
  | 118 => ⟨S1x552960, .i32⟩
  | 119 => ⟨S552960, .i32⟩
  | 120 => ⟨S1x552960, .i32⟩
  | 121 => ⟨S552960, .i32⟩
  | 122 => ⟨S_, .i32⟩
  | 123 => ⟨S552960, .i32⟩
  | 124 => ⟨S552960, .i1⟩
  | 125 => ⟨S_, .i32⟩
  | 126 => ⟨S552960, .i32⟩
  | 127 => ⟨S552960, .i32⟩
  | _ => ⟨S147456x1, .f32⟩

abbrev hbmTy0_1 (i : Nat) : BufTy := match i % 128 with
  | 0 => ⟨S552960, .i32⟩
  | 1 => ⟨S552960x1, .i32⟩
  | 2 => ⟨S552960x16, .f32⟩
  | 3 => ⟨S552960x32, .f32⟩
  | 4 => ⟨S552960x32, .f32⟩
  | 5 => ⟨S552960x32, .f32⟩
  | 6 => ⟨S552960x32, .f32⟩
  | 7 => ⟨S_, .f32⟩
  | 8 => ⟨S552960x32, .f32⟩
  | 9 => ⟨S552960x32, .f32⟩
  | 10 => ⟨S_, .f32⟩
  | 11 => ⟨S552960x32, .f32⟩
  | 12 => ⟨S552960x32, .f32⟩
  | 13 => ⟨S552960x32, .f32⟩
  | 14 => ⟨S_, .f32⟩
  | 15 => ⟨S147456x32, .f32⟩
  | 16 => ⟨S552960x1, .i32⟩
  | 17 => ⟨S147456x32, .f32⟩
  | 18 => ⟨S_, .f32⟩
  | 19 => ⟨S552960x1, .f32⟩
  | 20 => ⟨S_, .f32⟩
  | 21 => ⟨S147456x1, .f32⟩
  | 22 => ⟨S552960x1, .i32⟩
  | 23 => ⟨S147456x1, .f32⟩
  | 24 => ⟨S_, .f32⟩
  | 25 => ⟨S147456x1, .f32⟩
  | 26 => ⟨S147456x1, .f32⟩
  | 27 => ⟨S147456x32, .f32⟩
  | 28 => ⟨S147456x32, .f32⟩
  | 29 => ⟨S147456x32, .f32⟩
  | 30 => ⟨S147456x32, .f32⟩
  | 31 => ⟨S1x32, .f32⟩
  | 32 => ⟨S147456x32, .f32⟩
  | 33 => ⟨S147456x32, .f32⟩
  | 34 => ⟨S_, .f32⟩
  | 35 => ⟨S147456x32, .f32⟩
  | 36 => ⟨S147456x32, .f32⟩
  | 37 => ⟨S147456x1, .i32⟩
  | 38 => ⟨S576, .i32⟩
  | 39 => ⟨S1x576, .i32⟩
  | 40 => ⟨S147456x576, .i32⟩
  | 41 => ⟨S147456x576, .i32⟩
  | 42 => ⟨S147456x576, .i1⟩
  | 43 => ⟨S147456x576x1, .i1⟩
  | 44 => ⟨S147456x1x32, .f32⟩
  | 45 => ⟨S_, .f32⟩
  | 46 => ⟨S_, .f32⟩
  | 47 => ⟨S147456x576x32, .i1⟩
  | 48 => ⟨S147456x576x32, .f32⟩
  | 49 => ⟨S147456x576x32, .f32⟩
  | 50 => ⟨S147456x576x32, .f32⟩
  | 51 => ⟨S_, .f32⟩
  | 52 => ⟨S576x32, .f32⟩
  | 53 => ⟨S1x576x32, .f32⟩
  | 54 => ⟨S1x576x1536, .f32⟩
  | 55 => ⟨S1x576x512, .f32⟩
  | 56 => ⟨S1x576x512, .f32⟩
  | 57 => ⟨S1x576x512, .f32⟩
  | 58 => ⟨S1x576x8x64, .f32⟩
  | 59 => ⟨S1x8x576x64, .f32⟩
  | 60 => ⟨S1x576x8x64, .f32⟩
  | 61 => ⟨S1x8x576x64, .f32⟩
  | 62 => ⟨S1x576x8x64, .f32⟩
  | 63 => ⟨S1x8x576x64, .f32⟩
  | 64 => ⟨S1x8x64x576, .f32⟩
  | 65 => ⟨S8x576x64, .f32⟩
  | 66 => ⟨S8x64x576, .f32⟩
  | 67 => ⟨S8x576x576, .f32⟩
  | 68 => ⟨S1x8x576x576, .f32⟩
  | 69 => ⟨S_, .f32⟩
  | 70 => ⟨S1x8x576x576, .f32⟩
  | 71 => ⟨S1x8x576x576, .f32⟩
  | 72 => ⟨S_, .f32⟩
  | 73 => ⟨S1x8x576, .f32⟩
  | 74 => ⟨S_, .f32⟩
  | 75 => ⟨S1x8x576, .f32⟩
  | 76 => ⟨S1x8x576, .f32⟩
  | 77 => ⟨S1x8x576x1, .f32⟩
  | 78 => ⟨S1x8x576x576, .f32⟩
  | 79 => ⟨S1x8x576x576, .f32⟩
  | 80 => ⟨S1x8x576x576, .f32⟩
  | 81 => ⟨S_, .f32⟩
  | 82 => ⟨S1x8x576, .f32⟩
  | 83 => ⟨S1x8x576x1, .f32⟩
  | 84 => ⟨S1x8x576x576, .f32⟩
  | 85 => ⟨S1x8x576x576, .f32⟩
  | 86 => ⟨S8x576x576, .f32⟩
  | 87 => ⟨S8x576x64, .f32⟩
  | 88 => ⟨S8x576x64, .f32⟩
  | 89 => ⟨S1x8x576x64, .f32⟩
  | 90 => ⟨S1x576x8x64, .f32⟩
  | 91 => ⟨S1x576x512, .f32⟩
  | 92 => ⟨S1x576x32, .f32⟩
  | 93 => ⟨S_, .f32⟩
  | 94 => ⟨S1x32, .f32⟩
  | 95 => ⟨S_, .f32⟩
  | 96 => ⟨S1x32, .f32⟩
  | 97 => ⟨S1x32, .f32⟩
  | _ => ⟨S147456x1, .f32⟩

abbrev hbmTy (i : Nat) : BufTy := match i / 128 with
  | 0 => hbmTy0_0 i
  | 1 => hbmTy0_1 i
  | _ => ⟨S147456x1, .f32⟩

abbrev bufTy : (tb : Table) → Fin (tcTables nBuf tb) → BufTy
  | .hbm, ⟨i, _⟩ => hbmTy i
  | _, _ => ⟨S147456x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call0_cst : Ref sig .tc := ⟨.hbm, 68, rfl⟩
abbrev main_call0_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_6 : Ref sig .tc := ⟨.hbm, 75, rfl⟩
abbrev main_v45 : Ref sig .tc := ⟨.hbm, 76, rfl⟩
abbrev main_v46 : Ref sig .tc := ⟨.hbm, 77, rfl⟩
abbrev main_c_7 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_8 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_10 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_13 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call1_cst : Ref sig .tc := ⟨.hbm, 115, rfl⟩
abbrev main_call1_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_14 : Ref sig .tc := ⟨.hbm, 122, rfl⟩
abbrev main_v82 : Ref sig .tc := ⟨.hbm, 123, rfl⟩
abbrev main_v83 : Ref sig .tc := ⟨.hbm, 124, rfl⟩
abbrev main_c_15 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_18 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_19 : Ref sig .tc := ⟨.hbm, 146, rfl⟩
abbrev main_v101 : Ref sig .tc := ⟨.hbm, 147, rfl⟩
abbrev main_cst_20 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_21 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_call2_cst : Ref sig .tc := ⟨.hbm, 162, rfl⟩
abbrev main_call2_v0 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_22 : Ref sig .tc := ⟨.hbm, 173, rfl⟩
abbrev main_call3_v0 : Ref sig .tc := ⟨.hbm, 174, rfl⟩
abbrev main_call3_v1 : Ref sig .tc := ⟨.hbm, 175, rfl⟩
abbrev main_call3_v2 : Ref sig .tc := ⟨.hbm, 176, rfl⟩
abbrev main_call3_v3 : Ref sig .tc := ⟨.hbm, 177, rfl⟩
abbrev main_v123 : Ref sig .tc := ⟨.hbm, 178, rfl⟩
abbrev main_cst_23 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_24 : Ref sig .tc := ⟨.hbm, 197, rfl⟩
abbrev main_v141 : Ref sig .tc := ⟨.hbm, 198, rfl⟩
abbrev main_v142 : Ref sig .tc := ⟨.hbm, 199, rfl⟩
abbrev main_cst_25 : Ref sig .tc := ⟨.hbm, 200, rfl⟩
abbrev main_v143 : Ref sig .tc := ⟨.hbm, 201, rfl⟩
abbrev main_cst_26 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_27 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_28 : Ref sig .tc := ⟨.hbm, 221, rfl⟩
abbrev main_v161 : Ref sig .tc := ⟨.hbm, 222, rfl⟩
abbrev main_cst_29 : Ref sig .tc := ⟨.hbm, 223, rfl⟩
abbrev main_v162 : Ref sig .tc := ⟨.hbm, 224, rfl⟩
abbrev main_v163 : Ref sig .tc := ⟨.hbm, 225, rfl⟩

abbrev nD : Nat := 1
abbrev τ : Topo := Topo.v7x

variable {F : FTy → Type} [FloatOps F]
-- ==== Proof.KernelTerms.lean ====
/- The pure functions one launch of the kernel computes, named over the kernel's own payloads: the four neighbour weights,
   the first features of a tile, the three layers, the tile's pooled tokens, and the attention over all tokens. Nothing is
   proved here about values; the run (KernelCases, KernelRun) states its contents in these names. -/
module

public import proofs.«01_k».proof.Proof.Gen.KernelIdeal.Skeleton
public import Idealize.ShloMosaic.Lib.VecWindow

@[expose] public section

set_option maxRecDepth 16384

noncomputable section

namespace Cert.KernelIdeal.Tile

open Idealize.ShloMosaic Idealize.ShloMosaic.TcCoe
open Cert.KernelIdeal Cert.KernelIdeal.Gen

variable {F : FTy → Type} [FloatOps F] [Named F]

/-- The side of a patch, the divisor of a lane's row. -/
def sixteen : BitVec 32 := 16#32

/-- The reciprocal of the number of neighbours of each lane. -/
def invDeg : FVec F S1x49152 .f32 := k0_pay28 k0_pay25 k0_pay26 sixteen

/-- The weight of the left neighbour's message. -/
def wLeft : FVec F S1x49152 .f32 := k0_pay29 k0_pay25 k0_pay26 sixteen

/-- The weight of the right neighbour's message. -/
def wRight : FVec F S1x49152 .f32 := k0_pay30 k0_pay25 k0_pay26 sixteen

/-- The weight of the upper neighbour's message. -/
def wUp : FVec F S1x49152 .f32 := k0_pay33 invDeg (k0_pay31 k0_pay26 sixteen) k0_pay32

/-- The weight of the lower neighbour's message. -/
def wDown : FVec F S1x49152 .f32 := k0_pay34 (k0_pay27 k0_pay26 sixteen) invDeg

/-- The first layer on a tile. -/
def layer0 (x0 : FVec F S1x1x49152 .f32) (x1 : FVec F S2x4 .f32) (x2 x3 : FVec F S8x1 .f32) (x4 x5 : FVec F S16x8 .f32)
    (x6 : FVec F S16x2 .f32) (x7 : FVec F S16x1 .f32) : FVec F S16x49152 .f32 :=
  k0_pay45 wLeft wRight wUp wDown (k0_pay36 x2 x0 x3) (k0_pay37 x4) (k0_pay39 x7) (k0_pay41 x1 x5 x6) (k0_pay42 x1 x5 x6)
    (k0_pay43 x1 x5 x6) (k0_pay44 x1 x5 x6)

/-- The second layer on a tile. -/
def layer1 (h : FVec F S16x49152 .f32) (x1 : FVec F S2x4 .f32) (x8 x9 : FVec F S16x16 .f32) (x10 : FVec F S16x2 .f32)
    (x11 : FVec F S16x1 .f32) : FVec F S16x49152 .f32 :=
  k0_pay52 wLeft wRight wUp wDown h (k0_pay46 x8) (k0_pay47 x9) (k0_pay48 x11) (k0_pay49 (k0_pay35 x1) x10)
    (k0_pay50 (k0_pay35 x1) x9 x10) (k0_pay51 (k0_pay35 x1) x10)

/-- The third layer on a tile. -/
def layer2 (h : FVec F S16x49152 .f32) (x1 : FVec F S2x4 .f32) (x12 x13 : FVec F S32x16 .f32) (x14 : FVec F S32x2 .f32)
    (x15 : FVec F S32x1 .f32) : FVec F S32x49152 .f32 :=
  k0_pay56 wLeft wRight wUp wDown (k0_pay35 x1) h (k0_pay53 x12) (k0_pay54 x13) (k0_pay55 x14) x15

/-- The first image row of the third layer on a tile, as the kernel cuts it off for the pooling. -/
def firstRow (h : FVec F S16x49152 .f32) (x1 : FVec F S2x4 .f32) (x12 x13 : FVec F S32x16 .f32) (x14 : FVec F S32x2 .f32)
    (x15 : FVec F S32x1 .f32) : FVec F S32x384 .f32 :=
  k0_pay57 wLeft wRight wUp wDown (k0_pay35 x1) h (k0_pay53 x12) (k0_pay54 x13) (k0_pay55 x14) x15

/-- The pooling of a tile: one row per patch. -/
def pool (h : FVec F S32x49152 .f32) (r : FVec F S32x384 .f32) : FVec F S192x32 .f32 :=
  k0_pay1 h (k0_pay58 h r) (k0_pay60 (k0_pay59 h)) (k0_pay61 h) (k0_pay64 h (k0_pay62 h) (k0_pay63 h)) (k0_pay65 h)
    (k0_pay68 h (k0_pay66 h) (k0_pay67 h)) (k0_pay69 h) (k0_pay70 h) (k0_pay71 h)

/-- The two first layers on a tile, from the kernel's operands. -/
def hidden (x0 : FVec F S1x1x49152 .f32) (x1 : FVec F S2x4 .f32) (x2 x3 : FVec F S8x1 .f32) (x4 x5 : FVec F S16x8 .f32)
    (x6 : FVec F S16x2 .f32) (x7 : FVec F S16x1 .f32) (x8 x9 : FVec F S16x16 .f32) (x10 : FVec F S16x2 .f32)
    (x11 : FVec F S16x1 .f32) : FVec F S16x49152 .f32 :=
  layer1 (layer0 x0 x1 x2 x3 x4 x5 x6 x7) x1 x8 x9 x10 x11

/-- The tokens of a tile, from the kernel's operands. -/
def pooled (x0 : FVec F S1x1x49152 .f32) (x1 : FVec F S2x4 .f32) (x2 x3 : FVec F S8x1 .f32) (x4 x5 : FVec F S16x8 .f32)
    (x6 : FVec F S16x2 .f32) (x7 : FVec F S16x1 .f32) (x8 x9 : FVec F S16x16 .f32) (x10 : FVec F S16x2 .f32)
    (x11 : FVec F S16x1 .f32) (x12 x13 : FVec F S32x16 .f32) (x14 : FVec F S32x2 .f32) (x15 : FVec F S32x1 .f32) :
    FVec F S192x32 .f32 :=
  pool (layer2 (hidden x0 x1 x2 x3 x4 x5 x6 x7 x8 x9 x10 x11) x1 x12 x13 x14 x15)
    (firstRow (hidden x0 x1 x2 x3 x4 x5 x6 x7 x8 x9 x10 x11) x1 x12 x13 x14 x15)

/-- Rows `o` to `o + 63` of the output weights. -/
def rows (x17 : FVec F S512x32 .f32) (o : ℕ) (h : o + 64 ≤ 512) : FVec F S64x32 .f32 :=
  VecWindow.window x17 ![o, 0] S64x32.size (fun a => by
    match a with
    | ⟨0, _⟩ => exact h
    | ⟨1, _⟩ => exact (Nat.le_refl 32))

/-- The attention's running sum after the first three heads, over the projections `v561`. -/
def acc3 (tok : FVec F S576x32 .f32) (x16 : FVec F S32x1536 .f32) (x17 : FVec F S512x32 .f32) : FVec F S1x32 .f32 :=
  k0_pay10 (k0_pay3 tok x16) k0_pay4 (k0_pay5 tok x16 (rows x17 0 (by norm_num))) (k0_pay6 tok x16) (k0_pay7 tok x16)
    (k0_pay8 tok x16) k0_pay9 (rows x17 64 (by norm_num)) (rows x17 128 (by norm_num))

/-- After the first five heads. -/
def acc5 (tok : FVec F S576x32 .f32) (x16 : FVec F S32x1536 .f32) (x17 : FVec F S512x32 .f32) : FVec F S1x32 .f32 :=
  k0_pay15 (k0_pay3 tok x16) k0_pay4 (acc3 tok x16 x17) (k0_pay11 (k0_pay3 tok x16)) (k0_pay12 (k0_pay3 tok x16))
    (k0_pay13 (k0_pay3 tok x16) k0_pay4) k0_pay14 (rows x17 192 (by norm_num)) (rows x17 256 (by norm_num))

/-- After the first seven heads. -/
def acc7 (tok : FVec F S576x32 .f32) (x16 : FVec F S32x1536 .f32) (x17 : FVec F S512x32 .f32) : FVec F S1x32 .f32 :=
  k0_pay20 (k0_pay3 tok x16) k0_pay4 (acc5 tok x16 x17) (k0_pay16 (k0_pay3 tok x16)) (k0_pay17 (k0_pay3 tok x16))
    (k0_pay18 (k0_pay3 tok x16) k0_pay4) k0_pay19 (rows x17 320 (by norm_num)) (rows x17 384 (by norm_num))

/-- The attention over all tokens. -/
def attention (tok : FVec F S576x32 .f32) (x16 : FVec F S32x1536 .f32) (x17 : FVec F S512x32 .f32) : FVec F S1x32 .f32 :=
  k0_pay2 (acc7 tok x16 x17) (k0_pay21 (k0_pay3 tok x16)) (k0_pay22 (k0_pay3 tok x16)) (k0_pay23 (k0_pay3 tok x16) k0_pay4)
    k0_pay24 (rows x17 448 (by norm_num))

end Cert.KernelIdeal.Tile

end
-- ==== Proof.KernelCases.lean ====
/- The kernel body's run in its two cases, at named contents: at a point that is not the last, the tile's tokens are put
   over their rows of the scratch and the output is left as found; at the last point the attention over the whole scratch is
   stored too. -/
module

public import proofs.«01_k».proof.Proof.KernelTerms
public import proofs.«01_k».proof.Proof.Gen.KernelIdeal.Frame
public import Idealize.ShloMosaic.Lib.Pipeline.FrameBody
public import Idealize.ShloMosaic.Lib.WholeRead
public import Idealize.ShloMosaic.Lib.Tactic

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A whole staging memref owned at values `X` is its buffer at the contents that read `X`. -/
theorem owns_unread {c : Dev nD} {s : Shape} {q : PosShare TreeShare}
    {m : Memref sig .tc .vmem s .f32} (h : m.IsWhole) {X : Vec F s .f32} :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns
    iintro ⟨%f, %hf, H⟩
    obtain rfl := h.eq_unread hf
    iexact H
  have h₂ : ((m.view.loc (c : Thread nD τ) ↦[m.view.set]{q} h.unread X) : sProp 𝕄) ⊢ owns (c : Thread nD τ) m q X := by
    unfold owns
    iintro H
    iexists _; isplitr; swap; · iexact H
    ipureintro; exact h.read_unread _
  exact BI.equiv_iff.mp ⟨h₁, h₂⟩

/-- A load of the whole of a matrix held at the contents that read `X` is `X`. -/
theorem load_whole {a b : ℕ} {m : Memref sig .tc .vmem ⟨2, ![a, b]⟩ .f32} (h : m.IsWhole) (X : Vec F ⟨2, ![a, b]⟩ .f32)
    (inb : ∀ k, (![0, 0] : Fin 2 → ℕ) k + (![a, b] : Fin 2 → ℕ) k ≤ (![a, b] : Fin 2 → ℕ) k) :
    m.view.readAt (Elt F) (Rect.unit (s := ⟨2, ![a, b]⟩) ![0, 0] ![a, b] inb).toLoadRect (h.unread X) = X :=
  (m.view.readAt_full (h.unread X) inb).trans (h.read_unread X)

/-- The same for the stack of one image block. -/
theorem load_whole3 {a b c : ℕ} {m : Memref sig .tc .vmem ⟨3, ![a, b, c]⟩ .f32} (h : m.IsWhole) (X : Vec F ⟨3, ![a, b, c]⟩ .f32)
    (inb : ∀ k, (![0, 0, 0] : Fin 3 → ℕ) k + (![a, b, c] : Fin 3 → ℕ) k ≤ (![a, b, c] : Fin 3 → ℕ) k) :
    m.view.readAt (Elt F) (Rect.unit (s := ⟨3, ![a, b, c]⟩) ![0, 0, 0] ![a, b, c] inb).toLoadRect (h.unread X) = X :=
  (m.view.readAt_full (h.unread X) inb).trans (h.read_unread X)

/-- The eighteen operands the kernel only reads, owned at their values. -/
def inputs (c : Dev nD)
    (arg1 : Memref sig .tc .vmem S1x1x49152 .f32) (arg2 : Memref sig .tc .vmem S2x4 .f32)
    (arg3 : Memref sig .tc .vmem S8x1 .f32) (arg4 : Memref sig .tc .vmem S8x1 .f32) (arg5 : Memref sig .tc .vmem S16x8 .f32)
    (arg6 : Memref sig .tc .vmem S16x8 .f32) (arg7 : Memref sig .tc .vmem S16x2 .f32)
    (arg8 : Memref sig .tc .vmem S16x1 .f32) (arg9 : Memref sig .tc .vmem S16x16 .f32)
    (arg10 : Memref sig .tc .vmem S16x16 .f32) (arg11 : Memref sig .tc .vmem S16x2 .f32)
    (arg12 : Memref sig .tc .vmem S16x1 .f32) (arg13 : Memref sig .tc .vmem S32x16 .f32)
    (arg14 : Memref sig .tc .vmem S32x16 .f32) (arg15 : Memref sig .tc .vmem S32x2 .f32)
    (arg16 : Memref sig .tc .vmem S32x1 .f32) (arg17 : Memref sig .tc .vmem S32x1536 .f32)
    (arg18 : Memref sig .tc .vmem S512x32 .f32)
    (x0 : Vec F S1x1x49152 .f32) (x1 : Vec F S2x4 .f32) (x2 : Vec F S8x1 .f32) (x3 : Vec F S8x1 .f32) (x4 : Vec F S16x8 .f32)
    (x5 : Vec F S16x8 .f32) (x6 : Vec F S16x2 .f32) (x7 : Vec F S16x1 .f32) (x8 : Vec F S16x16 .f32) (x9 : Vec F S16x16 .f32)
    (x10 : Vec F S16x2 .f32) (x11 : Vec F S16x1 .f32) (x12 : Vec F S32x16 .f32) (x13 : Vec F S32x16 .f32)
    (x14 : Vec F S32x2 .f32) (x15 : Vec F S32x1 .f32) (x16 : Vec F S32x1536 .f32) (x17 : Vec F S512x32 .f32) : sProp 𝕄 :=
  iprop(owns (c : Thread nD τ) arg1 fullShare x0 ∗
    owns (c : Thread nD τ) arg2 fullShare x1 ∗
    owns (c : Thread nD τ) arg3 fullShare x2 ∗
    owns (c : Thread nD τ) arg4 fullShare x3 ∗
    owns (c : Thread nD τ) arg5 fullShare x4 ∗
    owns (c : Thread nD τ) arg6 fullShare x5 ∗
    owns (c : Thread nD τ) arg7 fullShare x6 ∗
    owns (c : Thread nD τ) arg8 fullShare x7 ∗
    owns (c : Thread nD τ) arg9 fullShare x8 ∗
    owns (c : Thread nD τ) arg10 fullShare x9 ∗
    owns (c : Thread nD τ) arg11 fullShare x10 ∗
    owns (c : Thread nD τ) arg12 fullShare x11 ∗
    owns (c : Thread nD τ) arg13 fullShare x12 ∗
    owns (c : Thread nD τ) arg14 fullShare x13 ∗
    owns (c : Thread nD τ) arg15 fullShare x14 ∗
    owns (c : Thread nD τ) arg16 fullShare x15 ∗
    owns (c : Thread nD τ) arg17 fullShare x16 ∗
    owns (c : Thread nD τ) arg18 fullShare x17)

set_option maxHeartbeats 1000000 in
/-- A point that is not the last: the tile's tokens are put over their rows of the scratch, the output keeps what it held. -/
theorem run_tile (c : Dev nD) (i : grid0.Coords)
  (arg1 : Memref sig .tc .vmem S1x1x49152 .f32) (harg1 : arg1.IsWhole)
  (arg2 : Memref sig .tc .vmem S2x4 .f32) (harg2 : arg2.IsWhole)
  (arg3 : Memref sig .tc .vmem S8x1 .f32) (harg3 : arg3.IsWhole)
  (arg4 : Memref sig .tc .vmem S8x1 .f32) (harg4 : arg4.IsWhole)
  (arg5 : Memref sig .tc .vmem S16x8 .f32) (harg5 : arg5.IsWhole)
  (arg6 : Memref sig .tc .vmem S16x8 .f32) (harg6 : arg6.IsWhole)
  (arg7 : Memref sig .tc .vmem S16x2 .f32) (harg7 : arg7.IsWhole)
  (arg8 : Memref sig .tc .vmem S16x1 .f32) (harg8 : arg8.IsWhole)
  (arg9 : Memref sig .tc .vmem S16x16 .f32) (harg9 : arg9.IsWhole)
  (arg10 : Memref sig .tc .vmem S16x16 .f32) (harg10 : arg10.IsWhole)
  (arg11 : Memref sig .tc .vmem S16x2 .f32) (harg11 : arg11.IsWhole)
  (arg12 : Memref sig .tc .vmem S16x1 .f32) (harg12 : arg12.IsWhole)
  (arg13 : Memref sig .tc .vmem S32x16 .f32) (harg13 : arg13.IsWhole)
  (arg14 : Memref sig .tc .vmem S32x16 .f32) (harg14 : arg14.IsWhole)
  (arg15 : Memref sig .tc .vmem S32x2 .f32) (harg15 : arg15.IsWhole)
  (arg16 : Memref sig .tc .vmem S32x1 .f32) (harg16 : arg16.IsWhole)
  (arg17 : Memref sig .tc .vmem S32x1536 .f32) (harg17 : arg17.IsWhole)
  (arg18 : Memref sig .tc .vmem S512x32 .f32) (harg18 : arg18.IsWhole)
  (arg19 : Memref sig .tc .vmem S1x32 .f32) (harg19 : arg19.IsWhole)
  (arg20 : Memref sig .tc .vmem S576x32 .f32) (harg20 : arg20.IsWhole)
  (hc : ¬ k0_cond1 i = 1#1)
  (x0 : Vec F S1x1x49152 .f32) (x1 : Vec F S2x4 .f32) (x2 : Vec F S8x1 .f32) (x3 : Vec F S8x1 .f32) (x4 : Vec F S16x8 .f32)
  (x5 : Vec F S16x8 .f32) (x6 : Vec F S16x2 .f32) (x7 : Vec F S16x1 .f32) (x8 : Vec F S16x16 .f32) (x9 : Vec F S16x16 .f32)
  (x10 : Vec F S16x2 .f32) (x11 : Vec F S16x1 .f32) (x12 : Vec F S32x16 .f32) (x13 : Vec F S32x16 .f32)
  (x14 : Vec F S32x2 .f32) (x15 : Vec F S32x1 .f32) (x16 : Vec F S32x1536 .f32) (x17 : Vec F S512x32 .f32)
  (d : Vec F S1x32 .f32) (t : Vec F S576x32 .f32) (E : Set ℕ) (K : PUnit → sProp 𝕄) :
    iprop(inputs c arg1 arg2 arg3 arg4 arg5 arg6 arg7 arg8 arg9 arg10 arg11 arg12 arg13 arg14 arg15 arg16 arg17 arg18
          x0 x1 x2 x3 x4 x5 x6 x7 x8 x9 x10 x11 x12 x13 x14 x15 x16 x17
        ∗ owns (c : Thread nD τ) arg19 fullShare d ∗ owns (c : Thread nD τ) arg20 fullShare t
        ∗ (iprop(inputs c arg1 arg2 arg3 arg4 arg5 arg6 arg7 arg8 arg9 arg10 arg11 arg12 arg13 arg14 arg15 arg16 arg17 arg18
            x0 x1 x2 x3 x4 x5 x6 x7 x8 x9 x10 x11 x12 x13 x14 x15 x16 x17
          ∗ owns (c : Thread nD τ) arg19 fullShare d
          ∗ owns (c : Thread nD τ) arg20 fullShare (VecWindow.put t (k0_off1 i) S192x32.size
            (pooled x0 x1 x2 x3 x4 x5 x6 x7 x8 x9 x10 x11 x12 x13 x14 x15))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold inputs
  simp only [owns_unread harg1, owns_unread harg2, owns_unread harg3, owns_unread harg4, owns_unread harg5, owns_unread harg6, owns_unread harg7, owns_unread harg8, owns_unread harg9, owns_unread harg10, owns_unread harg11, owns_unread harg12, owns_unread harg13, owns_unread harg14, owns_unread harg15, owns_unread harg16, owns_unread harg17, owns_unread harg18, owns_unread harg19, owns_unread harg20 (X := t)]
  iintro ⟨⟨H0, H1, H2, H3, H4, H5, H6, H7, H8, H9, H10, H11, H12, H13, H14, H15, H16, H17⟩, H18, HS, Hk⟩
  sl_exec (disch := first | sl_exact hc)
  sl_step
  iapply Hk
  isplitl [H0 H1 H2 H3 H4 H5 H6 H7 H8 H9 H10 H11 H12 H13 H14 H15 H16 H17]
  · iframe
  isplitl [H18]
  · iexact H18
  unfold owns; iexists _; isplitr; swap; · iexact HS
  ipureintro
  rw [View.read_writes_cons_put arg20.view (harg20.unread t) (k0_off1_inb i) _ [] rfl]
  have e27 : run_tile.sl.r_27 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15
      = layer2 (hidden x0 x1 x2 x3 x4 x5 x6 x7 x8 x9 x10 x11) x1 x12 x13 x14 x15 := by
    sl_unfold_words
    simp only [load_whole, load_whole3]
    rfl
  have e28 : run_tile.sl.r_28 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15
      = firstRow (hidden x0 x1 x2 x3 x4 x5 x6 x7 x8 x9 x10 x11) x1 x12 x13 x14 x15 := by
    sl_unfold_words
    simp only [load_whole, load_whole3]
    rfl
  show VecWindow.put (arg20.view.read (Elt F) (harg20.unread t)) (k0_off1 i) S192x32.size
    (pool (run_tile.sl.r_27 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15)
      (run_tile.sl.r_28 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15)) = _
  rw [e27, e28, harg20.read_unread]
  rfl

set_option maxHeartbeats 1000000 in
/-- The last point: the tile's tokens are put over their rows of the scratch, and the output is the attention over the whole of it. -/
theorem run_last (c : Dev nD) (i : grid0.Coords)
  (arg1 : Memref sig .tc .vmem S1x1x49152 .f32) (harg1 : arg1.IsWhole)
  (arg2 : Memref sig .tc .vmem S2x4 .f32) (harg2 : arg2.IsWhole)
  (arg3 : Memref sig .tc .vmem S8x1 .f32) (harg3 : arg3.IsWhole)
  (arg4 : Memref sig .tc .vmem S8x1 .f32) (harg4 : arg4.IsWhole)
  (arg5 : Memref sig .tc .vmem S16x8 .f32) (harg5 : arg5.IsWhole)
  (arg6 : Memref sig .tc .vmem S16x8 .f32) (harg6 : arg6.IsWhole)
  (arg7 : Memref sig .tc .vmem S16x2 .f32) (harg7 : arg7.IsWhole)
  (arg8 : Memref sig .tc .vmem S16x1 .f32) (harg8 : arg8.IsWhole)
  (arg9 : Memref sig .tc .vmem S16x16 .f32) (harg9 : arg9.IsWhole)
  (arg10 : Memref sig .tc .vmem S16x16 .f32) (harg10 : arg10.IsWhole)
  (arg11 : Memref sig .tc .vmem S16x2 .f32) (harg11 : arg11.IsWhole)
  (arg12 : Memref sig .tc .vmem S16x1 .f32) (harg12 : arg12.IsWhole)
  (arg13 : Memref sig .tc .vmem S32x16 .f32) (harg13 : arg13.IsWhole)
  (arg14 : Memref sig .tc .vmem S32x16 .f32) (harg14 : arg14.IsWhole)
  (arg15 : Memref sig .tc .vmem S32x2 .f32) (harg15 : arg15.IsWhole)
  (arg16 : Memref sig .tc .vmem S32x1 .f32) (harg16 : arg16.IsWhole)
  (arg17 : Memref sig .tc .vmem S32x1536 .f32) (harg17 : arg17.IsWhole)
  (arg18 : Memref sig .tc .vmem S512x32 .f32) (harg18 : arg18.IsWhole)
  (arg19 : Memref sig .tc .vmem S1x32 .f32) (harg19 : arg19.IsWhole)
  (arg20 : Memref sig .tc .vmem S576x32 .f32) (harg20 : arg20.IsWhole)
  (hc : k0_cond1 i = 1#1)
  (x0 : Vec F S1x1x49152 .f32) (x1 : Vec F S2x4 .f32) (x2 : Vec F S8x1 .f32) (x3 : Vec F S8x1 .f32) (x4 : Vec F S16x8 .f32)
  (x5 : Vec F S16x8 .f32) (x6 : Vec F S16x2 .f32) (x7 : Vec F S16x1 .f32) (x8 : Vec F S16x16 .f32) (x9 : Vec F S16x16 .f32)
  (x10 : Vec F S16x2 .f32) (x11 : Vec F S16x1 .f32) (x12 : Vec F S32x16 .f32) (x13 : Vec F S32x16 .f32)
  (x14 : Vec F S32x2 .f32) (x15 : Vec F S32x1 .f32) (x16 : Vec F S32x1536 .f32) (x17 : Vec F S512x32 .f32)
  (d : Vec F S1x32 .f32) (t : Vec F S576x32 .f32) (E : Set ℕ) (K : PUnit → sProp 𝕄) :
    iprop(inputs c arg1 arg2 arg3 arg4 arg5 arg6 arg7 arg8 arg9 arg10 arg11 arg12 arg13 arg14 arg15 arg16 arg17 arg18
          x0 x1 x2 x3 x4 x5 x6 x7 x8 x9 x10 x11 x12 x13 x14 x15 x16 x17
        ∗ owns (c : Thread nD τ) arg19 fullShare d ∗ owns (c : Thread nD τ) arg20 fullShare t
        ∗ (iprop(inputs c arg1 arg2 arg3 arg4 arg5 arg6 arg7 arg8 arg9 arg10 arg11 arg12 arg13 arg14 arg15 arg16 arg17 arg18
            x0 x1 x2 x3 x4 x5 x6 x7 x8 x9 x10 x11 x12 x13 x14 x15 x16 x17
          ∗ owns (c : Thread nD τ) arg19 fullShare
            (attention (VecWindow.put t (k0_off1 i) S192x32.size
              (pooled x0 x1 x2 x3 x4 x5 x6 x7 x8 x9 x10 x11 x12 x13 x14 x15)) x16 x17)
          ∗ owns (c : Thread nD τ) arg20 fullShare (VecWindow.put t (k0_off1 i) S192x32.size
            (pooled x0 x1 x2 x3 x4 x5 x6 x7 x8 x9 x10 x11 x12 x13 x14 x15))) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold inputs
  simp only [owns_unread harg1, owns_unread harg2, owns_unread harg3, owns_unread harg4, owns_unread harg5, owns_unread harg6, owns_unread harg7, owns_unread harg8, owns_unread harg9, owns_unread harg10, owns_unread harg11, owns_unread harg12, owns_unread harg13, owns_unread harg14, owns_unread harg15, owns_unread harg16, owns_unread harg17, owns_unread harg18, owns_unread harg19 (X := d), owns_unread harg20 (X := t)]
  iintro ⟨⟨H0, H1, H2, H3, H4, H5, H6, H7, H8, H9, H10, H11, H12, H13, H14, H15, H16, H17⟩, H18, HS, Hk⟩
  sl_exec (disch := first | sl_exact hc)
  sl_step
  iapply Hk
  isplitl [H0 H1 H2 H3 H4 H5 H6 H7 H8 H9 H10 H11 H12 H13 H14 H15 H16 H17]
  · iframe
  have e27 : run_last.sl.r_27 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15
      = layer2 (hidden x0 x1 x2 x3 x4 x5 x6 x7 x8 x9 x10 x11) x1 x12 x13 x14 x15 := by
    sl_unfold_words
    simp only [load_whole, load_whole3]
    rfl
  have e28 : run_last.sl.r_28 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15
      = firstRow (hidden x0 x1 x2 x3 x4 x5 x6 x7 x8 x9 x10 x11) x1 x12 x13 x14 x15 := by
    sl_unfold_words
    simp only [load_whole, load_whole3]
    rfl
  have ep : arg20.view.read (Elt F) (arg20.view.writes (Elt F) (harg20.unread t)
      [⟨Rect.unit (s := S576x32) (k0_off1 i) S192x32.size (k0_off1_inb i),
        pool (run_last.sl.r_27 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15)
          (run_last.sl.r_28 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15)⟩])
      = VecWindow.put t (k0_off1 i) S192x32.size (pooled x0 x1 x2 x3 x4 x5 x6 x7 x8 x9 x10 x11 x12 x13 x14 x15) := by
    rw [View.read_writes_cons_put arg20.view (harg20.unread t) (k0_off1_inb i) _ [] rfl, e27, e28]
    show VecWindow.put (arg20.view.read (Elt F) (harg20.unread t)) _ _ _ = _
    rw [harg20.read_unread]
    rfl
  isplitl [H18]
  · unfold owns; iexists _; isplitr; swap; · iexact H18
    ipureintro
    refine (View.read_writes_full arg19.view (harg19.unread d) _ _ []).trans ?_
    show attention (arg20.view.readAt (Elt F) (Rect.unit (s := S576x32) ![0, 0] S576x32.size inb_S576x32_S576x32_0_0).toLoadRect
        (arg20.view.writes (Elt F) (harg20.unread t)
          [⟨Rect.unit (s := S576x32) (k0_off1 i) S192x32.size (k0_off1_inb i),
            pool (run_last.sl.r_27 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15)
              (run_last.sl.r_28 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16
      x0 x1 x2 x3 x4 x5 x6 x7 x8 x9 x10 x11 x12 x13 x14 x15)⟩]))
      (arg17.view.readAt (Elt F) (Rect.unit (s := S32x1536) ![0, 0] S32x1536.size inb_S32x1536_S32x1536_0_0).toLoadRect
        (harg17.unread x16))
      (arg18.view.read (Elt F) (harg18.unread x17)) = _
    rw [harg18.read_unread, View.readAt_full, View.readAt_full, harg17.read_unread, ep]
  unfold owns; iexists _; isplitr; swap; · iexact HS
  ipureintro
  exact ep

end Cert.KernelIdeal.Tile

end
-- ==== Proof.KernelRun.lean ====
/- The whole run of the idealized kernel: the pipeline's proof data (the scratch holds the tokens of the tiles met so far),
   the body at every point, the launch, and what the output array holds at the end. -/
module

public import proofs.«01_k».proof.Proof.KernelCases
public import proofs.«01_k».proof.Proof.Gen.KernelIdeal.Launch
public import proofs.«01_k».proof.Proof.Gen.KernelIdeal.Points
public import Idealize.ShloMosaic.Lib.Pipeline.Value
public import Idealize.ShloMosaic.Lib.Pointwise.Index
public import Idealize.ShloMosaic.Lib.WordCmp

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

/-- The grid's coordinate at point `t` is `t`. -/
theorem coord_val (t : Fin cfg0.N) : (grid0.coords t 0).val = t.val := by
  have ht : t.val < 3 := Nat.lt_of_lt_of_eq t.isLt N_0
  have e : (grid0.coords t 0).val = t.val / 1 % 3 := Pipeline.Grid.coords_val t 0 (by decide) rfl
  rw [e]; omega

/-- The branch is taken at the last point only. -/
theorem last_iff (t : Fin cfg0.N) : k0_cond1 (grid0.coords t) = 1#1 ↔ t.val = 2 := by
  have ht : t.val < 3 := Nat.lt_of_lt_of_eq t.isLt N_0
  have e0 := coord_val t
  simp only [k0_cond1, e0]
  word_cmp

/-! ## The tokens -/

/-- The tokens of tile `t`. -/
def tile (c : Dev nD) (t : Fin cfg0.N) : FVec F S192x32 .f32 :=
  pooled (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The tile a token lies in. -/
def tileOf (i : S576x32.Idx) : Fin cfg0.N := ⟨(i 0).val / 192, by
  have h : (i 0).val < 576 := (i 0).isLt
  rw [show cfg0.N = 3 from N_0]; omega⟩

/-- All tokens: row `r` is row `r % 192` of tile `r / 192`. -/
def tokens (c : Dev nD) : FVec F S576x32 .f32 := fun i =>
  tile m c (tileOf i) (ix2 ⟨(i 0).val % 192, Nat.mod_lt _ (by norm_num)⟩ (i 1))

/-- The kernel's result. -/
def result (c : Dev nD) (t : Fin cfg0.N) : FVec F S1x32 .f32 := attention (tokens m c) (iblk m c 16 t) (iblk m c 17 t)

/-- Putting tile `t` over its rows extends the known rows by one tile. -/
theorem put_tile (c : Dev nD) (t : Fin cfg0.N) (d : FVec F S576x32 .f32)
    (hd : ∀ i : S576x32.Idx, (i 0).val < 192 * t.val → d i = tokens m c i) (i : S576x32.Idx) (hi : (i 0).val < 192 * (t.val + 1)) :
    VecWindow.put d (k0_off1 (grid0.coords t)) S192x32.size (tile m c t) i = tokens m c i := by
  have e := coord_val t
  have ht : t.val < 3 := Nat.lt_of_lt_of_eq t.isLt N_0
  have hoff : k0_off1 (grid0.coords t) = ![t.val * 192, 0] := by rw [k0_off1_eq, e, Nat.mul_comm]
  rw [hoff]
  unfold VecWindow.put
  split
  · rename_i h
    have h0 : t.val * 192 ≤ (i 0).val ∧ (i 0).val < t.val * 192 + 192 := h 0
    unfold tokens
    rw [show tileOf i = t from Fin.ext (show (i 0).val / 192 = t.val by omega)]
    congr 1
    funext a
    match a with
    | ⟨0, _⟩ => exact Fin.ext (show (i 0).val - t.val * 192 = (i 0).val % 192 by omega)
    | ⟨1, _⟩ => exact Fin.ext (show (i 1).val - 0 = (i 1).val by omega)
  · rename_i h
    refine hd i ?_
    by_contra hc
    refine h fun a => ?_
    match a with
    | ⟨0, _⟩ => exact (show t.val * 192 ≤ (i 0).val ∧ (i 0).val < t.val * 192 + 192 by omega)
    | ⟨1, _⟩ =>
      have : (i 1).val < 32 := (i 1).isLt
      exact (show 0 ≤ (i 1).val ∧ (i 1).val < 0 + 32 by omega)

/-! ## The staging memrefs -/

abbrev st0 (t : Fin cfg0.N) : Memref sig .tc .vmem S1x1x49152 .f32 := win0_0.stage (cfg0.slots t 0)
abbrev st1 (t : Fin cfg0.N) : Memref sig .tc .vmem S2x4 .f32 := win0_1.stage (cfg0.slots t 1)
abbrev st2 (t : Fin cfg0.N) : Memref sig .tc .vmem S8x1 .f32 := win0_2.stage (cfg0.slots t 2)
abbrev st3 (t : Fin cfg0.N) : Memref sig .tc .vmem S8x1 .f32 := win0_3.stage (cfg0.slots t 3)
abbrev st4 (t : Fin cfg0.N) : Memref sig .tc .vmem S16x8 .f32 := win0_4.stage (cfg0.slots t 4)
abbrev st5 (t : Fin cfg0.N) : Memref sig .tc .vmem S16x8 .f32 := win0_5.stage (cfg0.slots t 5)
abbrev st6 (t : Fin cfg0.N) : Memref sig .tc .vmem S16x2 .f32 := win0_6.stage (cfg0.slots t 6)
abbrev st7 (t : Fin cfg0.N) : Memref sig .tc .vmem S16x1 .f32 := win0_7.stage (cfg0.slots t 7)
abbrev st8 (t : Fin cfg0.N) : Memref sig .tc .vmem S16x16 .f32 := win0_8.stage (cfg0.slots t 8)
abbrev st9 (t : Fin cfg0.N) : Memref sig .tc .vmem S16x16 .f32 := win0_9.stage (cfg0.slots t 9)
abbrev st10 (t : Fin cfg0.N) : Memref sig .tc .vmem S16x2 .f32 := win0_10.stage (cfg0.slots t 10)
abbrev st11 (t : Fin cfg0.N) : Memref sig .tc .vmem S16x1 .f32 := win0_11.stage (cfg0.slots t 11)
abbrev st12 (t : Fin cfg0.N) : Memref sig .tc .vmem S32x16 .f32 := win0_12.stage (cfg0.slots t 12)
abbrev st13 (t : Fin cfg0.N) : Memref sig .tc .vmem S32x16 .f32 := win0_13.stage (cfg0.slots t 13)
abbrev st14 (t : Fin cfg0.N) : Memref sig .tc .vmem S32x2 .f32 := win0_14.stage (cfg0.slots t 14)
abbrev st15 (t : Fin cfg0.N) : Memref sig .tc .vmem S32x1 .f32 := win0_15.stage (cfg0.slots t 15)
abbrev st16 (t : Fin cfg0.N) : Memref sig .tc .vmem S32x1536 .f32 := win0_16.stage (cfg0.slots t 16)
abbrev st17 (t : Fin cfg0.N) : Memref sig .tc .vmem S512x32 .f32 := win0_17.stage (cfg0.slots t 17)
abbrev st18 (t : Fin cfg0.N) : Memref sig .tc .vmem S1x32 .f32 := win0_18.stage (cfg0.slots t 18)

theorem wst0 (t : Fin cfg0.N) : (st0 t).IsWhole := hstage0_0 ((cfg0.slots t 0).cast nbuf0_0)
theorem wst1 (t : Fin cfg0.N) : (st1 t).IsWhole := hstage0_1 ((cfg0.slots t 1).cast nbuf0_1)
theorem wst2 (t : Fin cfg0.N) : (st2 t).IsWhole := hstage0_2 ((cfg0.slots t 2).cast nbuf0_2)
theorem wst3 (t : Fin cfg0.N) : (st3 t).IsWhole := hstage0_3 ((cfg0.slots t 3).cast nbuf0_3)
theorem wst4 (t : Fin cfg0.N) : (st4 t).IsWhole := hstage0_4 ((cfg0.slots t 4).cast nbuf0_4)
theorem wst5 (t : Fin cfg0.N) : (st5 t).IsWhole := hstage0_5 ((cfg0.slots t 5).cast nbuf0_5)
theorem wst6 (t : Fin cfg0.N) : (st6 t).IsWhole := hstage0_6 ((cfg0.slots t 6).cast nbuf0_6)
theorem wst7 (t : Fin cfg0.N) : (st7 t).IsWhole := hstage0_7 ((cfg0.slots t 7).cast nbuf0_7)
theorem wst8 (t : Fin cfg0.N) : (st8 t).IsWhole := hstage0_8 ((cfg0.slots t 8).cast nbuf0_8)
theorem wst9 (t : Fin cfg0.N) : (st9 t).IsWhole := hstage0_9 ((cfg0.slots t 9).cast nbuf0_9)
theorem wst10 (t : Fin cfg0.N) : (st10 t).IsWhole := hstage0_10 ((cfg0.slots t 10).cast nbuf0_10)
theorem wst11 (t : Fin cfg0.N) : (st11 t).IsWhole := hstage0_11 ((cfg0.slots t 11).cast nbuf0_11)
theorem wst12 (t : Fin cfg0.N) : (st12 t).IsWhole := hstage0_12 ((cfg0.slots t 12).cast nbuf0_12)
theorem wst13 (t : Fin cfg0.N) : (st13 t).IsWhole := hstage0_13 ((cfg0.slots t 13).cast nbuf0_13)
theorem wst14 (t : Fin cfg0.N) : (st14 t).IsWhole := hstage0_14 ((cfg0.slots t 14).cast nbuf0_14)
theorem wst15 (t : Fin cfg0.N) : (st15 t).IsWhole := hstage0_15 ((cfg0.slots t 15).cast nbuf0_15)
theorem wst16 (t : Fin cfg0.N) : (st16 t).IsWhole := hstage0_16 ((cfg0.slots t 16).cast nbuf0_16)
theorem wst17 (t : Fin cfg0.N) : (st17 t).IsWhole := hstage0_17 ((cfg0.slots t 17).cast nbuf0_17)
theorem wst18 (t : Fin cfg0.N) : (st18 t).IsWhole := hstage0_18 ((cfg0.slots t 18).cast nbuf0_18)

/-- The scratch of all tokens. -/
abbrev scratch : Memref sig .tc .vmem S576x32 .f32 := Memref.whole cc0_scratch0

/-! ## The pipeline's proof data -/

/-- Before point `n`: the scratch holds the tokens of the first `n` tiles; the generator register is at something. -/
def known (c : Dev nD) (n : ℕ) : sProp 𝕄 :=
  iprop((∃ d : Vec F S576x32 .f32, ⌜∀ i : S576x32.Idx, (i 0).val < 192 * n → d i = tokens m c i⌝ ∗ owns (c : Thread nD τ) scratch fullShare d)
    ∗ (∃ r, prngReg c r))

/-- The proof data: the arrays as the region finds them; each input's buffer left at its block, the output's at the
    kernel's result; the invariant `known`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => result m c t
    | ⟨_ + 19, h⟩ => absurd h (Nat.not_lt.2 (Nat.le_add_left _ _))
  Φ t := known m c t.val
  q _ := fullShare
  owed _ := 0

theorem A_eq (c : Dev nD) (w : Fin cfg0.W) : (dats m 0 c).A w = V m c (Pipeline.arrRef spec0 w) := by
  dsimp only [dats]

/-- What the body leaves in each window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = result m c t := by dsimp only [dats]

/-- What the body finds in each input window. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d

theorem leaves0 (c : Dev nD) (t : Fin cfg0.N) :
    (dats m 0 c).leavesExact 0 t = owns (c : Thread nD τ) (st0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (st1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (st2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (st3 t) fullShare (iblk m c 3 t) := by
  unfold Dat.leavesExact; rw [show cfg0.idle 3 (grid0.coords t) = false from rfl, after3]
theorem leaves4 (c : Dev nD) (t : Fin cfg0.N) :
    (dats m 0 c).leavesExact 4 t = owns (c : Thread nD τ) (st4 t) fullShare (iblk m c 4 t) := by
  unfold Dat.leavesExact; rw [show cfg0.idle 4 (grid0.coords t) = false from rfl, after4]
theorem leaves5 (c : Dev nD) (t : Fin cfg0.N) :
    (dats m 0 c).leavesExact 5 t = owns (c : Thread nD τ) (st5 t) fullShare (iblk m c 5 t) := by
  unfold Dat.leavesExact; rw [show cfg0.idle 5 (grid0.coords t) = false from rfl, after5]
theorem leaves6 (c : Dev nD) (t : Fin cfg0.N) :
    (dats m 0 c).leavesExact 6 t = owns (c : Thread nD τ) (st6 t) fullShare (iblk m c 6 t) := by
  unfold Dat.leavesExact; rw [show cfg0.idle 6 (grid0.coords t) = false from rfl, after6]
theorem leaves7 (c : Dev nD) (t : Fin cfg0.N) :
    (dats m 0 c).leavesExact 7 t = owns (c : Thread nD τ) (st7 t) fullShare (iblk m c 7 t) := by
  unfold Dat.leavesExact; rw [show cfg0.idle 7 (grid0.coords t) = false from rfl, after7]
theorem leaves8 (c : Dev nD) (t : Fin cfg0.N) :
    (dats m 0 c).leavesExact 8 t = owns (c : Thread nD τ) (st8 t) fullShare (iblk m c 8 t) := by
  unfold Dat.leavesExact; rw [show cfg0.idle 8 (grid0.coords t) = false from rfl, after8]
theorem leaves9 (c : Dev nD) (t : Fin cfg0.N) :
    (dats m 0 c).leavesExact 9 t = owns (c : Thread nD τ) (st9 t) fullShare (iblk m c 9 t) := by
  unfold Dat.leavesExact; rw [show cfg0.idle 9 (grid0.coords t) = false from rfl, after9]
theorem leaves10 (c : Dev nD) (t : Fin cfg0.N) :
    (dats m 0 c).leavesExact 10 t = owns (c : Thread nD τ) (st10 t) fullShare (iblk m c 10 t) := by
  unfold Dat.leavesExact; rw [show cfg0.idle 10 (grid0.coords t) = false from rfl, after10]
theorem leaves11 (c : Dev nD) (t : Fin cfg0.N) :
    (dats m 0 c).leavesExact 11 t = owns (c : Thread nD τ) (st11 t) fullShare (iblk m c 11 t) := by
  unfold Dat.leavesExact; rw [show cfg0.idle 11 (grid0.coords t) = false from rfl, after11]
theorem leaves12 (c : Dev nD) (t : Fin cfg0.N) :
    (dats m 0 c).leavesExact 12 t = owns (c : Thread nD τ) (st12 t) fullShare (iblk m c 12 t) := by
  unfold Dat.leavesExact; rw [show cfg0.idle 12 (grid0.coords t) = false from rfl, after12]
theorem leaves13 (c : Dev nD) (t : Fin cfg0.N) :
    (dats m 0 c).leavesExact 13 t = owns (c : Thread nD τ) (st13 t) fullShare (iblk m c 13 t) := by
  unfold Dat.leavesExact; rw [show cfg0.idle 13 (grid0.coords t) = false from rfl, after13]
theorem leaves14 (c : Dev nD) (t : Fin cfg0.N) :
    (dats m 0 c).leavesExact 14 t = owns (c : Thread nD τ) (st14 t) fullShare (iblk m c 14 t) := by
  unfold Dat.leavesExact; rw [show cfg0.idle 14 (grid0.coords t) = false from rfl, after14]
theorem leaves15 (c : Dev nD) (t : Fin cfg0.N) :
    (dats m 0 c).leavesExact 15 t = owns (c : Thread nD τ) (st15 t) fullShare (iblk m c 15 t) := by
  unfold Dat.leavesExact; rw [show cfg0.idle 15 (grid0.coords t) = false from rfl, after15]
theorem leaves16 (c : Dev nD) (t : Fin cfg0.N) :
    (dats m 0 c).leavesExact 16 t = owns (c : Thread nD τ) (st16 t) fullShare (iblk m c 16 t) := by
  unfold Dat.leavesExact; rw [show cfg0.idle 16 (grid0.coords t) = false from rfl, after16]
theorem leaves17 (c : Dev nD) (t : Fin cfg0.N) :
    (dats m 0 c).leavesExact 17 t = owns (c : Thread nD τ) (st17 t) fullShare (iblk m c 17 t) := by
  unfold Dat.leavesExact; rw [show cfg0.idle 17 (grid0.coords t) = false from rfl, after17]

/-! ## The body at every point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d))
    ∗ (∃ d, owns (c : Thread nD τ) (st17 t) fullShare ((dats m 0 c).before 17 t d))
    ∗ (∃ d, owns (c : Thread nD τ) (st18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17,
    leaves0, leaves1, leaves2, leaves3, leaves4, leaves5, leaves6, leaves7, leaves8, leaves9, leaves10, leaves11, leaves12, leaves13, leaves14, leaves15, leaves16, leaves17]
  rw [show (dats m 0 c).owesAt () t.succ = (dats m 0 c).owesAt () t.castSucc from rfl]
  rw [show (dats m 0 c).Φ t.castSucc = known m c t.val from rfl, show (dats m 0 c).Φ t.succ = known m c (t.val + 1) from rfl]
  unfold known
  have hN : t.val < 3 := lt_of_lt_of_eq t.isLt (show cfg0.N = 3 from N_0)
  by_cases h2 : t.val = 2
  · have hc := (last_iff t).mpr h2
    rw [show (dats m 0 c).leavesExact 18 t = owns (c : Thread nD τ) (st18 t) fullShare (result m c t) from by
      unfold Dat.leavesExact
      rw [show cfg0.idle 18 (grid0.coords t) = false from by
        show (!(k0_cond1 (grid0.coords t) == 1#1)) = false
        rw [hc]; rfl, after18]]
    iintro ⟨⟨⟨%e, %he, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    have hput := put_tile m c t e he
    have hall : VecWindow.put e (k0_off1 (grid0.coords t)) S192x32.size (tile m c t) = tokens m c := by
      funext i
      have h : (i 0).val < 576 := (i 0).isLt
      exact hput i (by omega)
    iapply (run_last c (grid0.coords t) _ _ _ _ _ _ _ _ _ _ _ _ _ _ _ _ _ _ _ _ _ _ _ _ _ _ _ _ _ _ _ _ _ _ _ _ _ _ _ _ hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ e Set.univ _)
    isplitl [H0 H1 H2 H3 H4 H5 H6 H7 H8 H9 H10 H11 H12 H13 H14 H15 H16 H17]
    · unfold inputs; iframe
    isplitl [H18]; · iexact H18
    isplitl [HS]; · iexact HS
    unfold inputs
    iintro ⟨⟨H0, H1, H2, H3, H4, H5, H6, H7, H8, H9, H10, H11, H12, H13, H14, H15, H16, H17⟩, H18, HS⟩
    isplitl [HS Hg]
    · isplitl [HS]
      · iexists _; isplitr; swap; · iexact HS
        ipureintro; exact hput
      iexact Hg
    isplitl [Ho]; · iexact Ho
    unfold result
    rw [← hall]
    unfold tile
    iframe
  · have hc : ¬ k0_cond1 (grid0.coords t) = 1#1 := fun h => h2 ((last_iff t).mp h)
    rw [(dats m 0 c).leavesExact_idle 18 t (by
        show (!(k0_cond1 (grid0.coords t) == 1#1)) = true
        simp [hc]) (by
        have := flush0_18 t
        rw [Bool.eq_false_iff]; intro h; have := this.mp h; omega)]
    iintro ⟨⟨⟨%e, %he, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    have hput := put_tile m c t e he
    iapply (run_tile c (grid0.coords t) _ _ _ _ _ _ _ _ _ _ _ _ _ _ _ _ _ _ _ _ _ _ _ _ _ _ _ _ _ _ _ _ _ _ _ _ _ _ _ _ hc
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _ e Set.univ _)
    isplitl [H0 H1 H2 H3 H4 H5 H6 H7 H8 H9 H10 H11 H12 H13 H14 H15 H16 H17]
    · unfold inputs; iframe
    isplitl [H18]; · iexact H18
    isplitl [HS]; · iexact HS
    unfold inputs
    iintro ⟨⟨H0, H1, H2, H3, H4, H5, H6, H7, H8, H9, H10, H11, H12, H13, H14, H15, H16, H17⟩, H18, HS⟩
    isplitl [HS Hg]
    · isplitl [HS]
      · iexists _; isplitr; swap; · iexact HS
        ipureintro; exact hput
      iexact Hg
    isplitl [Ho]; · iexact Ho
    iframe
    iexists d18; iexact H18

/-- The body table's row at a point is the body as the points name it. -/
theorem defs₀_row (t : Fin cfg0.N) : defs₀ (F := F) .tc cfg0.body (cfg0.bodyArgs t (cfg0.slots t)) = bodyAt0 t := by
  unfold defs₀; rw [Defs.onTc_tc]

/-- The body obligation of the pipeline rule. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known before the first point. -/
theorem known_zero (c : Dev nD) : Pipeline.ΦA spec0 c ⊢ (known m c 0 : sProp 𝕄) := by
  unfold Pipeline.ΦA known; rw [scopedRest0_eq]
  simp only [scratch, owns_whole]
  iintro ⟨⟨%d, H⟩, Hg⟩
  isplitl [H]
  · iexists d; isplitr; · ipureintro; exact fun i h => absurd h (by omega)
    iexact H
  iexact Hg

/-- At the end the scratch is forgotten. -/
theorem known_forget (c : Dev nD) (n : ℕ) : (known m c n : sProp 𝕄) ⊢ Pipeline.ΦA spec0 c := by
  unfold Pipeline.ΦA known; rw [scopedRest0_eq]
  simp only [scratch, owns_whole]
  iintro ⟨⟨%d, -, H⟩, Hg⟩
  isplitl [H]
  · iexists d; iexact H
  iexact Hg

/-! ## The launch -/

set_option backward.isDefEq.respectTransparency.types false in
/-- Every execution ends with the arrays at their final contents and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => known_zero m c) (hout := fun c => known_forget m c _)

end Cert.KernelIdeal.Tile

end
-- ==== Proof.KernelFrame.lean ====
/- The frame of the idealized kernel, and its result array after a run. -/
module

public import proofs.«01_k».proof.Proof.KernelRun
public import Idealize.ShloMosaic.Lib.Claim

@[expose] public section

set_option maxRecDepth 16384

noncomputable section

namespace Cert.KernelIdeal.Tile

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F] [Named F]

variable (m : (ℓ : Loc nD τ sig) → Buf (Elt F) ℓ) (ρ : Dev nD → PrngReg)

/-- Every argument array is as launched. -/
def Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)

/-- The arrays after a run: every argument as launched. -/
theorem args_kept : θ_run defs (onTc (τ := τ) (main (F := F))) ⟨m, fun _ => 0, ρ⟩ (fun r => ∀ c : Dev nD, Kept m r c) :=
  frame_of m ρ (dats m) (A_eq m) ((θ_run defs _ _).mono (fun _ h => h.1) (run_main m ρ))

/-- The frame: every argument as launched, and every counter at zero. -/
theorem frame : θ_run defs (onTc (τ := τ) (main (F := F))) ⟨m, fun _ => 0, ρ⟩
    (fun r => (∀ c : Dev nD, Kept m r c) ∧ r.2.sem = fun _ => 0) :=
  θ_run_and (args_kept m ρ) ((θ_run defs _ _).mono (fun _ h => h.2) (run_main m ρ))

/-- The last point. -/
def lastPt : Fin cfg0.N := ⟨2, by rw [show cfg0.N = 3 from N_0]; norm_num⟩

/-- The output's block, at any point, sits in the array where it stands. -/
theorem emb18 (t : Fin cfg0.N) (j : S1x32.Idx) : ((cfg0.win 18).blk t).view.emb j = j :=
  funext fun a => Fin.ext ((cfg0.win 18).rect_emb_val_of_index_zero t a (by match a with | ⟨0, _⟩ => rfl | ⟨1, _⟩ => rfl) j)

/-- The result array after the run. -/
theorem final (c : Dev nD) : (dats m 0 c).arrAt 18 cfg0.N = result m c lastPt := by
  refine (dats m 0 c).arrAt_eq_of_cover 18 (result m c lastPt) (fun t ht => ?_) (fun i => ?_)
  · have h2 := (flush0_18 t).mp ht
    have hN : t.val < 3 := lt_of_lt_of_eq t.isLt (show cfg0.N = 3 from N_0)
    have e : t = lastPt := Fin.ext (show t.val = 2 by omega)
    subst e
    show (cfg0.win 18).cut (grid0.coords lastPt) ((dats m 0 c).after 18 lastPt) = _
    rw [after18]
    funext j
    show result m c lastPt j = result m c lastPt (((cfg0.win 18).blk lastPt).view.emb j)
    rw [emb18]
  · refine ⟨lastPt, (flush0_18 lastPt).mpr rfl, ?_⟩
    have h := ((cfg0.win 18).blk lastPt).view.emb_mem_set i
    rwa [emb18] at h

/-- The run with the result array named. -/
theorem run_value : θ_run defs (onTc (τ := τ) (main (F := F))) ⟨m, fun _ => 0, ρ⟩
    (fun r => ∀ c : Dev nD, r.2.mem ((c.tc : Thread nD τ).loc main_v17) = result m c lastPt ∧ Kept m r c) :=
  (θ_run defs _ _).mono (fun _ h c => ⟨h.1 c, h.2 c⟩)
    (θ_run_and (Q₁ := fun r => ∀ c : Dev nD, r.2.mem ((c.tc : Thread nD τ).loc main_v17) = result m c lastPt)
      ((θ_run defs _ _).mono (fun _ h c => ((h.1 c).1 18).trans (final m c)) (run_main m ρ)) (args_kept m ρ))

end Cert.KernelIdeal.Tile

end
-- ==== Proof.SameProgram.lean ====
/- The kernel as written and the kernel at exact arithmetic are one program text: they differ in how the one named
   constant is read. So the frame, proved of the latter at any float operations, is the frame of the former. -/
module

public import proofs.«01_k».proof.Defs
public import proofs.«01_k».proof.Proof.Gen.Kernel
public import proofs.«01_k».proof.Proof.KernelFrame

@[expose] public section

set_option maxRecDepth 100000

noncomputable section

namespace Cert.Proof

open Idealize.ShloMosaic Idealize.SL.Sem

/-- A named constant read as the word it is printed with. -/
@[reducible] def words : Named Bits where
  named _ _ {φ} w := FloatOps.ofBits φ w

attribute [local instance] words

set_option maxHeartbeats 4000000 in
/-- One kernel body. -/
theorem body_eq : Cert.Kernel.cc0__fused_kernel (F := Bits) = Cert.KernelIdeal.cc0__fused_kernel (F := Bits) := rfl

set_option maxHeartbeats 4000000 in
/-- One body table. -/
theorem table_eq : Cert.Kernel.defs₀ (F := Bits) = Cert.KernelIdeal.defs₀ (F := Bits) := by
  refine congrArg Defs.onTc (funext fun l => funext fun a => ?_)
  match l, a with
  | ⟨0, _⟩, (t, s) => rfl
  | ⟨_ + 1, h⟩, _ => exact absurd h (Nat.not_lt.2 (Nat.le_add_left _ _))

/-- One table of the regions. -/
theorem defs_eq : Cert.Kernel.defs (F := Bits) = Cert.KernelIdeal.defs (F := Bits) :=
  congrArg (Pipeline.defs (Cert.Kernel.pcfgs (F := Bits))) table_eq

/-- One host program. -/
theorem main_eq : Cert.Kernel.main (F := Bits) = Cert.KernelIdeal.main (F := Bits) := rfl

/-- The kernel as written returns with its arguments as launched and its counters at zero. -/
theorem frame_kernel : Cert.quiescent_Kernel := fun m ρ _ => by
  have h := Cert.KernelIdeal.Tile.frame (F := Bits) m ρ
  rw [← defs_eq, ← main_eq] at h
  exact h

end Cert.Proof

end
-- ==== Proof.Frames.lean ====
/- The claims beside the value claim: every program returns with its arguments as launched and its counters at zero, and
   the idealized kernel keeps the kernel's constant. -/
module

public import proofs.«01_k».proof.Defs
public import proofs.«01_k».proof.Proof.Gen.KernelIdeal
public import proofs.«01_k».proof.Proof.Gen.ReferenceIdeal.Run
public import proofs.«01_k».proof.Proof.Gen.Pre_grid_graph
public import proofs.«01_k».proof.Proof.SameProgram
public import Idealize.ShloMosaic.Lib.Claim

@[expose] public section

noncomputable section

namespace Cert.Proof

open Idealize.ShloMosaic Idealize.SL.Sem

/-- The kernel at exact arithmetic. -/
theorem frame_ideal : Cert.quiescent_KernelIdeal := fun m ρ _ => Cert.KernelIdeal.Tile.frame m ρ

/-- The kernel at exact arithmetic, under the precondition. -/
theorem frame_ideal_pre : Cert.quiescent_KernelIdeal_pre_grid_graph := fun m ρ _ => Cert.KernelIdeal.Tile.frame m ρ

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference, under the precondition. -/
theorem frame_reference_pre : Cert.quiescent_ReferenceIdeal_pre_grid_graph := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant of the mean over the patches is `1 / 576`. -/
theorem preserves : Cert.preserves_Kernel_KernelIdeal :=
  IdealRules.named_const.statement Cert.KernelIdeal.κ "inv_n" .f32 0x3AE38E39#32 ((1 / 576 : ℝ) : EReal) rfl

end Cert.Proof

end
-- ==== Proof.Grid.lean ====
/- The grid graph: which nodes its edges join, and a sum over the edges entering a node as a sum over its four sides. The
   layer the network applies at a node, over the reals. -/
module

public import Mathlib.Logic.Equiv.Fin.Basic
public import Mathlib.Algebra.BigOperators.Fin
public import Mathlib.Data.Real.Basic
public import Idealize.ShloMosaic.Lib.Pointwise

@[expose] public section

noncomputable section

namespace Cert.Proof.Grid

/-- First node of horizontal edge `e` of a segment. -/
def hor (e : ℕ) : ℕ := e / 15 * 16 + e % 15
/-- First node of vertical edge `e` of a segment. -/
def ver (e : ℕ) : ℕ := e / 5760 * 6144 + e % 5760

/-- The node edge `e` of segment `s` leaves. -/
def src : Fin 4 → ℕ → ℕ := ![fun e => hor e, fun e => hor e + 1, fun e => ver e, fun e => ver e + 384]
/-- The node edge `e` of segment `s` enters. -/
def dst : Fin 4 → ℕ → ℕ := ![fun e => hor e + 1, fun e => hor e, fun e => ver e + 384, fun e => ver e]
/-- Whether node `n` has an incoming edge of segment `s`. -/
def has : Fin 4 → ℕ → Prop := ![fun n => n % 16 ≠ 0, fun n => n % 16 ≠ 15, fun n => n / 384 % 16 ≠ 0, fun n => n / 384 % 16 ≠ 15]
/-- The neighbour of node `n` along segment `s`. -/
def nbr : Fin 4 → ℕ → ℕ := ![fun n => n - 1, fun n => n + 1, fun n => n - 384, fun n => n + 384]
/-- The edge of segment `s` that enters node `n`, when there is one. -/
def edge : Fin 4 → ℕ → ℕ :=
  ![fun n => n / 16 * 15 + n % 16 - 1, fun n => n / 16 * 15 + n % 16, fun n => n / 6144 * 5760 + n % 6144 - 384, fun n => n / 6144 * 5760 + n % 6144]

instance (s : Fin 4) (n : ℕ) : Decidable (has s n) :=
  match s with
  | 0 => inferInstanceAs (Decidable (n % 16 ≠ 0))
  | 1 => inferInstanceAs (Decidable (n % 16 ≠ 15))
  | 2 => inferInstanceAs (Decidable (n / 384 % 16 ≠ 0))
  | 3 => inferInstanceAs (Decidable (n / 384 % 16 ≠ 15))

/-- An edge that is there is a number of its segment. -/
theorem edge_lt (s : Fin 4) (n : ℕ) (hn : n < 147456) (h : has s n) : edge s n < 138240 := by
  fin_cases s <;> simp [edge, has] at h ⊢ <;> omega

/-- Exactly one edge of a segment enters a node that has one. -/
theorem dst_iff (s : Fin 4) (n e : ℕ) (he : e < 138240) (hn : n < 147456) : dst s e = n ↔ has s n ∧ e = edge s n := by
  fin_cases s <;> simp [dst, edge, has, hor, ver] <;> omega

/-- It comes from the neighbour. -/
theorem src_edge (s : Fin 4) (n : ℕ) (hn : n < 147456) (h : has s n) : src s (edge s n) = nbr s n := by
  fin_cases s <;> simp [src, edge, has, hor, ver, nbr] at h ⊢ <;> omega

/-- Edges leave nodes. -/
theorem src_lt (s : Fin 4) (e : ℕ) (he : e < 138240) : src s e < 147456 := by
  fin_cases s <;> simp [src, hor, ver] <;> omega

/-- Edge `e` of segment `s` in the list of all edges. -/
def at_ (s : Fin 4) (e : Fin 138240) : Fin 552960 := ⟨138240 * s.val + e.val, by omega⟩

/-- A sum over all edges that picks those entering `n` is a sum of at most four terms. -/
theorem sum_edges {M : Type*} [AddCommMonoid M] (d : Fin 552960 → ℤ) (hd : ∀ s e, d (at_ s e) = (dst s e.val : ℤ)) (f : Fin 552960 → M)
    (n : ℕ) (hn : n < 147456) :
    (∑ e, if d e = (n : ℤ) then f e else 0) = ∑ s : Fin 4, if h : has s n then f (at_ s ⟨edge s n, edge_lt s n hn h⟩) else 0 := by
  have e0 : (∑ e : Fin 552960, if d e = (n : ℤ) then f e else 0) = ∑ p : Fin 4 × Fin 138240, if d (at_ p.1 p.2) = (n : ℤ) then f (at_ p.1 p.2) else 0 := by
    refine (Fintype.sum_equiv (finProdFinEquiv (m := 4) (n := 138240)) _ _ fun p => ?_).symm
    have : finProdFinEquiv p = at_ p.1 p.2 := Fin.ext (by simp [finProdFinEquiv, at_]; omega)
    rw [this]
  rw [e0, Fintype.sum_prod_type]
  refine Finset.sum_congr rfl fun s _ => ?_
  by_cases h : has s n
  · rw [dif_pos h, Finset.sum_eq_single (⟨edge s n, edge_lt s n hn h⟩ : Fin 138240)]
    · rw [if_pos (by rw [hd]; exact congrArg _ ((dst_iff s n _ (edge_lt s n hn h) hn).2 ⟨h, rfl⟩))]
    · intro e _ hne
      rw [if_neg]
      rw [hd, Int.natCast_inj, dst_iff s n _ e.isLt hn]
      exact fun q => hne (Fin.ext q.2)
    · exact fun q => absurd (Finset.mem_univ _) q
  · rw [dif_neg h]
    refine Finset.sum_eq_zero fun e _ => if_neg ?_
    rw [hd, Int.natCast_inj, dst_iff s n _ e.isLt hn]
    exact fun q => h q.1
/-- Whole tiles shift nothing: a node's sides are those of its lane. -/
theorem has_add (s : Fin 4) (t n : ℕ) : has s (49152 * t + n) ↔ has s n := by
  fin_cases s <;> simp [has] <;> omega

/-- How many edges enter a node. -/
def deg (n : ℕ) : ℝ := ∑ s : Fin 4, if has s n then 1 else 0

theorem deg_add (t n : ℕ) : deg (49152 * t + n) = deg n := by simp only [deg, has_add]

/-- At least one does. -/
theorem one_le_deg (n : ℕ) : 1 ≤ deg n := by
  have h : has 0 n ∨ has 1 n := by
    by_cases h : n % 16 = 0
    · exact Or.inr (by show n % 16 ≠ 15; omega)
    · exact Or.inl h
  have nn : ∀ s : Fin 4, (0 : ℝ) ≤ if has s n then 1 else 0 := fun s => by split <;> norm_num
  unfold deg
  rw [Fin.sum_univ_four]
  rcases h with h | h
  · have := nn 1; have := nn 2; have := nn 3; rw [if_pos h]; linarith
  · have := nn 0; have := nn 2; have := nn 3; rw [if_pos (h : has 1 n)]; linarith

theorem deg_pos (n : ℕ) : 0 < deg n := lt_of_lt_of_le one_pos (one_le_deg n)

/-- One layer at node `n`, channel `o`: the node's own features, the mean of the gated messages of its neighbours, the bias, and
    the positive part. -/
def conv {K O : ℕ} (h : ℕ → Fin K → ℝ) (root msg : Fin K → Fin O → ℝ) (g : Fin 4 → Fin O → ℝ) (b : Fin O → ℝ) (n : ℕ) (o : Fin O) : ℝ :=
  max ((∑ k, h n k * root k o)
    + (∑ s : Fin 4, if has s n then (∑ k, h (nbr s n) k * msg k o) * g s o else 0) / deg n + b o) 0

end Cert.Proof.Grid

end
-- ==== Proof.Net.lean ====
/- The network over the reals, and what it means for the programs' argument arrays to hold its numbers. -/
module

public import proofs.«01_k».proof.Proof.Grid

@[expose] public section

noncomputable section

namespace Cert.Proof.Grid

open Idealize.ShloMosaic

/-- The real numbers of the network: node signal, weights, and the gate of each segment of edges in each layer. -/
structure Net where
  x : ℕ → ℝ
  wf : Fin 8 → ℝ
  bf : Fin 8 → ℝ
  root0 : Fin 8 → Fin 16 → ℝ
  msg0 : Fin 8 → Fin 16 → ℝ
  gate0 : Fin 4 → Fin 16 → ℝ
  b0 : Fin 16 → ℝ
  root1 : Fin 16 → Fin 16 → ℝ
  msg1 : Fin 16 → Fin 16 → ℝ
  gate1 : Fin 4 → Fin 16 → ℝ
  b1 : Fin 16 → ℝ
  root2 : Fin 16 → Fin 32 → ℝ
  msg2 : Fin 16 → Fin 32 → ℝ
  gate2 : Fin 4 → Fin 32 → ℝ
  b2 : Fin 32 → ℝ
  wqkv : Fin 32 → Fin 1536 → ℝ
  wout : Fin 512 → Fin 32 → ℝ

/-- The node features before the first layer. -/
def Net.h0 (N : Net) (n : ℕ) (c : Fin 8) : ℝ := N.x n * N.wf c + N.bf c
/-- The node features after the first layer. -/
def Net.h1 (N : Net) : ℕ → Fin 16 → ℝ := conv N.h0 N.root0 N.msg0 N.gate0 N.b0
/-- The node features after the second layer. -/
def Net.h2 (N : Net) : ℕ → Fin 16 → ℝ := conv N.h1 N.root1 N.msg1 N.gate1 N.b1
/-- The node features after the third layer. -/
def Net.h3 (N : Net) : ℕ → Fin 32 → ℝ := conv N.h2 N.root2 N.msg2 N.gate2 N.b2

/-- The argument arrays hold the network's numbers on the grid graph. -/
structure Meets (N : Net) (x0 : FVec Ideal ⟨2, ![147456, 1]⟩ .f32) (x1 : IVec ⟨2, ![2, 552960]⟩ 32) (x2 : FVec Ideal ⟨2, ![552960, 2]⟩ .f32)
    (x3 : IVec ⟨1, ![147456]⟩ 32)
    (x4 : FVec Ideal ⟨2, ![1, 8]⟩ .f32) (x5 : FVec Ideal ⟨1, ![8]⟩ .f32) (x6 x7 : FVec Ideal ⟨2, ![8, 16]⟩ .f32)
    (x8 : FVec Ideal ⟨2, ![2, 16]⟩ .f32) (x9 : FVec Ideal ⟨1, ![16]⟩ .f32) (x10 x11 : FVec Ideal ⟨2, ![16, 16]⟩ .f32)
    (x12 : FVec Ideal ⟨2, ![2, 16]⟩ .f32) (x13 : FVec Ideal ⟨1, ![16]⟩ .f32) (x14 x15 : FVec Ideal ⟨2, ![16, 32]⟩ .f32)
    (x16 : FVec Ideal ⟨2, ![2, 32]⟩ .f32) (x17 : FVec Ideal ⟨1, ![32]⟩ .f32) (x18 : FVec Ideal ⟨2, ![32, 1536]⟩ .f32)
    (x19 : FVec Ideal ⟨2, ![512, 32]⟩ .f32) : Prop where
  src : ∀ s e, (x1 (ix2 0 (at_ s e))).toInt = (src s e.val : ℤ)
  dst : ∀ s e, (x1 (ix2 1 (at_ s e))).toInt = (dst s e.val : ℤ)
  attr : ∀ s e k, x2 (ix2 (at_ s e) k) = x2 (ix2 (at_ s 0) k)
  patch : ∀ n : Fin 147456, (x3 (ix1 n)).toInt = ((n.val / 6144 * 24 + n.val % 384 / 16 : ℕ) : ℤ)
  x : ∀ n : Fin 147456, x0 (ix2 n 0) = ((N.x n.val : ℝ) : EReal)
  wf : ∀ c, x4 (ix2 0 c) = ((N.wf c : ℝ) : EReal)
  bf : ∀ c, x5 (ix1 c) = ((N.bf c : ℝ) : EReal)
  root0 : ∀ c o, x6 (ix2 c o) = ((N.root0 c o : ℝ) : EReal)
  msg0 : ∀ c o, x7 (ix2 c o) = ((N.msg0 c o : ℝ) : EReal)
  gate0 : ∀ s o, Ideal.logistic (∑ k, x2 (ix2 (at_ s 0) k) * x8 (ix2 k o)) = ((N.gate0 s o : ℝ) : EReal)
  b0 : ∀ o, x9 (ix1 o) = ((N.b0 o : ℝ) : EReal)
  root1 : ∀ c o, x10 (ix2 c o) = ((N.root1 c o : ℝ) : EReal)
  msg1 : ∀ c o, x11 (ix2 c o) = ((N.msg1 c o : ℝ) : EReal)
  gate1 : ∀ s o, Ideal.logistic (∑ k, x2 (ix2 (at_ s 0) k) * x12 (ix2 k o)) = ((N.gate1 s o : ℝ) : EReal)
  b1 : ∀ o, x13 (ix1 o) = ((N.b1 o : ℝ) : EReal)
  root2 : ∀ c o, x14 (ix2 c o) = ((N.root2 c o : ℝ) : EReal)
  msg2 : ∀ c o, x15 (ix2 c o) = ((N.msg2 c o : ℝ) : EReal)
  gate2 : ∀ s o, Ideal.logistic (∑ k, x2 (ix2 (at_ s 0) k) * x16 (ix2 k o)) = ((N.gate2 s o : ℝ) : EReal)
  b2 : ∀ o, x17 (ix1 o) = ((N.b2 o : ℝ) : EReal)
  wqkv : ∀ c o, x18 (ix2 c o) = ((N.wqkv c o : ℝ) : EReal)
  wout : ∀ c o, x19 (ix2 c o) = ((N.wout c o : ℝ) : EReal)

/-- The logistic function is real at every extended real. -/
theorem logistic_real (y : EReal) : Ideal.logistic y = (((Ideal.logistic y).toReal : ℝ) : EReal) := by
  have key : ∃ r : ℝ, Ideal.logistic y = (r : EReal) := by
    induction y using EReal.rec with
    | bot =>
      refine ⟨0, ?_⟩
      show Ideal.div 1 (1 + Ideal.exp (-⊥)) = _
      rw [EReal.neg_bot]
      show Ideal.div 1 (1 + ⊤) = _
      rw [EReal.add_top_of_ne_bot (by decide)]
      unfold Ideal.div
      rw [if_neg (by decide)]; simp
    | top =>
      refine ⟨1, ?_⟩
      show Ideal.div 1 (1 + Ideal.exp (-⊤)) = _
      rw [EReal.neg_top]
      show Ideal.div 1 (1 + 0) = _
      rw [add_zero, show (1 : EReal) = ((1 : ℝ) : EReal) from rfl, Ideal.div_coe one_ne_zero]
      rw [← EReal.coe_mul]; norm_num
    | coe r =>
      refine ⟨1 * (1 / (1 + Real.exp (-r))), ?_⟩
      show Ideal.div 1 (1 + Ideal.exp (-(r : EReal))) = _
      rw [← EReal.coe_neg]
      show Ideal.div 1 (1 + ((Real.exp (-r) : ℝ) : EReal)) = _
      rw [show (1 : EReal) = ((1 : ℝ) : EReal) from rfl, ← EReal.coe_add, Ideal.div_coe (by positivity), ← EReal.coe_mul]
  obtain ⟨r, hr⟩ := key
  rw [hr, EReal.toReal_coe]

end Cert.Proof.Grid

end
-- ==== Proof.Tokens.lean ====
/- The tokens: a patch's largest feature in each channel, over the reals. -/
module

public import proofs.«01_k».proof.Proof.Net
public import Mathlib.Data.Finset.Max
public import Mathlib.Data.Finset.Lattice.Fold

@[expose] public section

noncomputable section

namespace Cert.Proof.Grid

/-- The node at row `q.2` and column `q.1` of patch `p`. -/
def node (p : ℕ) (q : Fin 16 × Fin 16) : ℕ := 6144 * (p / 24) + 384 * q.2.val + (16 * (p % 24) + q.1.val)

/-- The patch a node lies in. -/
def patch (n : ℕ) : ℕ := n / 6144 * 24 + n % 384 / 16

theorem patch_node (p : ℕ) (q : Fin 16 × Fin 16) : patch (node p q) = p := by
  unfold patch node
  have := q.1.isLt
  have := q.2.isLt
  omega

theorem node_lt (p : ℕ) (hp : p < 576) (q : Fin 16 × Fin 16) : node p q < 147456 := by
  unfold node
  have := q.1.isLt
  have := q.2.isLt
  omega

theorem node_patch (n : ℕ) : ∃ q, node (patch n) q = n := by
  refine ⟨(⟨n % 16, by omega⟩, ⟨n / 384 % 16, by omega⟩), ?_⟩
  unfold node patch
  show 6144 * ((n / 6144 * 24 + n % 384 / 16) / 24) + 384 * (n / 384 % 16) + (16 * ((n / 6144 * 24 + n % 384 / 16) % 24) + n % 16) = n
  omega

/-- Token `p` in channel `c`. -/
def Net.tok (N : Net) (p : ℕ) (c : Fin 32) : ℝ :=
  Finset.univ.sup' Finset.univ_nonempty fun q : Fin 16 × Fin 16 => N.h3 (node p q) c

/-- A node's feature is at most its patch's token. -/
theorem Net.h3_le_tok (N : Net) (p : ℕ) (c : Fin 32) (q : Fin 16 × Fin 16) : N.h3 (node p q) c ≤ N.tok p c :=
  Finset.le_sup' (fun q : Fin 16 × Fin 16 => N.h3 (node p q) c) (Finset.mem_univ q)

/-- The token is one of the features. -/
theorem Net.tok_mem (N : Net) (p : ℕ) (c : Fin 32) : ∃ q, N.tok p c = N.h3 (node p q) c := by
  obtain ⟨q, _, h⟩ := Finset.exists_mem_eq_sup' Finset.univ_nonempty fun q : Fin 16 × Fin 16 => N.h3 (node p q) c
  exact ⟨q, h⟩

/-- Anything that is at most the token, and at least every feature, is the token. -/
theorem Net.eq_tok (N : Net) (p : ℕ) (c : Fin 32) (y : EReal) (hle : y ≤ ((N.tok p c : ℝ) : EReal))
    (hge : ∀ q, ((N.h3 (node p q) c : ℝ) : EReal) ≤ y) : y = ((N.tok p c : ℝ) : EReal) := by
  obtain ⟨q, h⟩ := N.tok_mem p c
  exact le_antisymm hle (h ▸ hge q)

end Cert.Proof.Grid

end
-- ==== Proof.KernelOperands.lean ====
/- The kernel's operands as elements of the program's arguments. -/
module

public import proofs.«01_k».proof.Proof.Net
public import proofs.«01_k».proof.Proof.KernelRun
public import Idealize.ShloMosaic.Lib.Pointwise
public import Idealize.ShloMosaic.Lib.StableHlo.ReadAt

@[expose] public section

noncomputable section

namespace Cert.KernelIdeal.Tile

open Idealize.ShloMosaic Cert.KernelIdeal Cert.KernelIdeal.Gen Cert.Proof.Grid

variable (m : (ℓ : Loc nD τ sig) → Buf (Elt Ideal) ℓ) (c : Dev nD) (t : Fin cfg0.N)

/-- The node signal: a grid point's tile is 49152 consecutive nodes. -/
theorem op0 (n : Fin 49152) (hn : 49152 * t.val + n.val < 147456) : (iblk m c 0 t : S1x1x49152.Idx → EReal) (ix3 0 0 n)
    = (m ((c.tc (τ := τ)).loc main_arg0) : S147456x1.Idx → EReal) (ix2 ⟨49152 * t.val + n.val, hn⟩ 0) := by
  have ht : t.val < 3 := t.isLt
  have e : ((cfg0.win 0).blk t).view.emb (ix3 0 0 n) = ix3 (⟨t.val, ht⟩ : Fin 3) (0 : Fin 1) n := funext fun a => Fin.ext (by
    refine ((cfg0.win 0).rect_emb_val t (ix3 0 0 n) a).trans ?_
    match a with
    | ⟨0, _⟩ =>
      have q : cc0_transform_0 (grid0.coords t) 0 = t.val := by
        show (BitVec.ofNat 32 (grid0.coords t 0).val).toNat = t.val
        rw [coord_val, BitVec.toNat_ofNat]; omega
      show cc0_transform_0 (grid0.coords t) 0 * 1 + 0 = t.val
      omega
    | ⟨1, _⟩ =>
      show 0 * 1 + 0 = 0
      rfl
    | ⟨2, _⟩ =>
      show 0 * 49152 + n.val = n.val
      omega)
  show (V m c main_v2 : S3x1x49152.Idx → EReal) (((cfg0.win 0).blk t).view.emb (ix3 0 0 n)) = _
  rw [e]
  unfold V
  after_reads_at
  exact congrArg (fun z : Fin 147456 => (m ((c.tc (τ := τ)).loc main_arg0) : S147456x1.Idx → EReal) (ix2 z 0)) (Fin.ext (by
    show t.val * 49152 + n.val = 49152 * t.val + n.val; omega))

/-- The edge attributes of each segment's first edge. -/
theorem op1 (k : Fin 2) (s : Fin 4) : (iblk m c 1 t : S2x4.Idx → EReal) (ix2 k s) = (m ((c.tc (τ := τ)).loc main_arg2) : S552960x2.Idx → EReal) (ix2 (at_ s 0) k) := by
  show (V m c main_v1 : S2x4.Idx → EReal) (((cfg0.win 1).blk t).view.emb (ix2 k s)) = _
  rw [show ((cfg0.win 1).blk t).view.emb (ix2 k s) = ix2 k s from funext fun a => Fin.ext ((cfg0.win 1).rect_emb_val_of_index_zero t a
    (by match a with | ⟨0, _⟩ => rfl | ⟨1, _⟩ => rfl) (ix2 k s))]
  unfold V
  after_reads_at
  rfl

/-- The feature weights. -/
theorem op2 (k : Fin 8) : (iblk m c 2 t : S8x1.Idx → EReal) (ix2 k 0) = (m ((c.tc (τ := τ)).loc main_arg4) : S1x8.Idx → EReal) (ix2 0 k) := by
  show (V m c main_v3 : S8x1.Idx → EReal) (((cfg0.win 2).blk t).view.emb (ix2 k 0)) = _
  rw [show ((cfg0.win 2).blk t).view.emb (ix2 k 0) = ix2 k 0 from funext fun a => Fin.ext ((cfg0.win 2).rect_emb_val_of_index_zero t a
    (by match a with | ⟨0, _⟩ => rfl | ⟨1, _⟩ => rfl) (ix2 k 0))]
  unfold V
  after_reads_at

/-- The feature bias. -/
theorem op3 (k : Fin 8) : (iblk m c 3 t : S8x1.Idx → EReal) (ix2 k 0) = (m ((c.tc (τ := τ)).loc main_arg5) : S8.Idx → EReal) (ix1 k) := by
  show (V m c main_v4 : S8x1.Idx → EReal) (((cfg0.win 3).blk t).view.emb (ix2 k 0)) = _
  rw [show ((cfg0.win 3).blk t).view.emb (ix2 k 0) = ix2 k 0 from funext fun a => Fin.ext ((cfg0.win 3).rect_emb_val_of_index_zero t a
    (by match a with | ⟨0, _⟩ => rfl | ⟨1, _⟩ => rfl) (ix2 k 0))]
  unfold V
  after_reads_at

/-- The root weights of a layer. -/
theorem op4 (o : Fin 16) (k : Fin 8) : (iblk m c 4 t : S16x8.Idx → EReal) (ix2 o k) = (m ((c.tc (τ := τ)).loc main_arg6) : S8x16.Idx → EReal) (ix2 k o) := by
  show (V m c main_v5 : S16x8.Idx → EReal) (((cfg0.win 4).blk t).view.emb (ix2 o k)) = _
  rw [show ((cfg0.win 4).blk t).view.emb (ix2 o k) = ix2 o k from funext fun a => Fin.ext ((cfg0.win 4).rect_emb_val_of_index_zero t a
    (by match a with | ⟨0, _⟩ => rfl | ⟨1, _⟩ => rfl) (ix2 o k))]
  unfold V
  after_reads_at

/-- The message weights of a layer. -/
theorem op5 (o : Fin 16) (k : Fin 8) : (iblk m c 5 t : S16x8.Idx → EReal) (ix2 o k) = (m ((c.tc (τ := τ)).loc main_arg7) : S8x16.Idx → EReal) (ix2 k o) := by
  show (V m c main_v6 : S16x8.Idx → EReal) (((cfg0.win 5).blk t).view.emb (ix2 o k)) = _
  rw [show ((cfg0.win 5).blk t).view.emb (ix2 o k) = ix2 o k from funext fun a => Fin.ext ((cfg0.win 5).rect_emb_val_of_index_zero t a
    (by match a with | ⟨0, _⟩ => rfl | ⟨1, _⟩ => rfl) (ix2 o k))]
  unfold V
  after_reads_at

/-- The edge weights of a layer. -/
theorem op6 (o : Fin 16) (k : Fin 2) : (iblk m c 6 t : S16x2.Idx → EReal) (ix2 o k) = (m ((c.tc (τ := τ)).loc main_arg8) : S2x16.Idx → EReal) (ix2 k o) := by
  show (V m c main_v7 : S16x2.Idx → EReal) (((cfg0.win 6).blk t).view.emb (ix2 o k)) = _
  rw [show ((cfg0.win 6).blk t).view.emb (ix2 o k) = ix2 o k from funext fun a => Fin.ext ((cfg0.win 6).rect_emb_val_of_index_zero t a
    (by match a with | ⟨0, _⟩ => rfl | ⟨1, _⟩ => rfl) (ix2 o k))]
  unfold V
  after_reads_at

/-- The bias of a layer. -/
theorem op7 (o : Fin 16) : (iblk m c 7 t : S16x1.Idx → EReal) (ix2 o 0) = (m ((c.tc (τ := τ)).loc main_arg9) : S16.Idx → EReal) (ix1 o) := by
  show (V m c main_v8 : S16x1.Idx → EReal) (((cfg0.win 7).blk t).view.emb (ix2 o 0)) = _
  rw [show ((cfg0.win 7).blk t).view.emb (ix2 o 0) = ix2 o 0 from funext fun a => Fin.ext ((cfg0.win 7).rect_emb_val_of_index_zero t a
    (by match a with | ⟨0, _⟩ => rfl | ⟨1, _⟩ => rfl) (ix2 o 0))]
  unfold V
  after_reads_at

/-- The root weights of a layer. -/
theorem op8 (o : Fin 16) (k : Fin 16) : (iblk m c 8 t : S16x16.Idx → EReal) (ix2 o k) = (m ((c.tc (τ := τ)).loc main_arg10) : S16x16.Idx → EReal) (ix2 k o) := by
  show (V m c main_v9 : S16x16.Idx → EReal) (((cfg0.win 8).blk t).view.emb (ix2 o k)) = _
  rw [show ((cfg0.win 8).blk t).view.emb (ix2 o k) = ix2 o k from funext fun a => Fin.ext ((cfg0.win 8).rect_emb_val_of_index_zero t a
    (by match a with | ⟨0, _⟩ => rfl | ⟨1, _⟩ => rfl) (ix2 o k))]
  unfold V
  after_reads_at

/-- The message weights of a layer. -/
theorem op9 (o : Fin 16) (k : Fin 16) : (iblk m c 9 t : S16x16.Idx → EReal) (ix2 o k) = (m ((c.tc (τ := τ)).loc main_arg11) : S16x16.Idx → EReal) (ix2 k o) := by
  show (V m c main_v10 : S16x16.Idx → EReal) (((cfg0.win 9).blk t).view.emb (ix2 o k)) = _
  rw [show ((cfg0.win 9).blk t).view.emb (ix2 o k) = ix2 o k from funext fun a => Fin.ext ((cfg0.win 9).rect_emb_val_of_index_zero t a
    (by match a with | ⟨0, _⟩ => rfl | ⟨1, _⟩ => rfl) (ix2 o k))]
  unfold V
  after_reads_at

/-- The edge weights of a layer. -/
theorem op10 (o : Fin 16) (k : Fin 2) : (iblk m c 10 t : S16x2.Idx → EReal) (ix2 o k) = (m ((c.tc (τ := τ)).loc main_arg12) : S2x16.Idx → EReal) (ix2 k o) := by
  show (V m c main_v11 : S16x2.Idx → EReal) (((cfg0.win 10).blk t).view.emb (ix2 o k)) = _
  rw [show ((cfg0.win 10).blk t).view.emb (ix2 o k) = ix2 o k from funext fun a => Fin.ext ((cfg0.win 10).rect_emb_val_of_index_zero t a
    (by match a with | ⟨0, _⟩ => rfl | ⟨1, _⟩ => rfl) (ix2 o k))]
  unfold V
  after_reads_at

/-- The bias of a layer. -/
theorem op11 (o : Fin 16) : (iblk m c 11 t : S16x1.Idx → EReal) (ix2 o 0) = (m ((c.tc (τ := τ)).loc main_arg13) : S16.Idx → EReal) (ix1 o) := by
  show (V m c main_v12 : S16x1.Idx → EReal) (((cfg0.win 11).blk t).view.emb (ix2 o 0)) = _
  rw [show ((cfg0.win 11).blk t).view.emb (ix2 o 0) = ix2 o 0 from funext fun a => Fin.ext ((cfg0.win 11).rect_emb_val_of_index_zero t a
    (by match a with | ⟨0, _⟩ => rfl | ⟨1, _⟩ => rfl) (ix2 o 0))]
  unfold V
  after_reads_at

/-- The root weights of a layer. -/
theorem op12 (o : Fin 32) (k : Fin 16) : (iblk m c 12 t : S32x16.Idx → EReal) (ix2 o k) = (m ((c.tc (τ := τ)).loc main_arg14) : S16x32.Idx → EReal) (ix2 k o) := by
  show (V m c main_v13 : S32x16.Idx → EReal) (((cfg0.win 12).blk t).view.emb (ix2 o k)) = _
  rw [show ((cfg0.win 12).blk t).view.emb (ix2 o k) = ix2 o k from funext fun a => Fin.ext ((cfg0.win 12).rect_emb_val_of_index_zero t a
    (by match a with | ⟨0, _⟩ => rfl | ⟨1, _⟩ => rfl) (ix2 o k))]
  unfold V
  after_reads_at

/-- The message weights of a layer. -/
theorem op13 (o : Fin 32) (k : Fin 16) : (iblk m c 13 t : S32x16.Idx → EReal) (ix2 o k) = (m ((c.tc (τ := τ)).loc main_arg15) : S16x32.Idx → EReal) (ix2 k o) := by
  show (V m c main_v14 : S32x16.Idx → EReal) (((cfg0.win 13).blk t).view.emb (ix2 o k)) = _
  rw [show ((cfg0.win 13).blk t).view.emb (ix2 o k) = ix2 o k from funext fun a => Fin.ext ((cfg0.win 13).rect_emb_val_of_index_zero t a
    (by match a with | ⟨0, _⟩ => rfl | ⟨1, _⟩ => rfl) (ix2 o k))]
  unfold V
  after_reads_at

/-- The edge weights of a layer. -/
theorem op14 (o : Fin 32) (k : Fin 2) : (iblk m c 14 t : S32x2.Idx → EReal) (ix2 o k) = (m ((c.tc (τ := τ)).loc main_arg16) : S2x32.Idx → EReal) (ix2 k o) := by
  show (V m c main_v15 : S32x2.Idx → EReal) (((cfg0.win 14).blk t).view.emb (ix2 o k)) = _
  rw [show ((cfg0.win 14).blk t).view.emb (ix2 o k) = ix2 o k from funext fun a => Fin.ext ((cfg0.win 14).rect_emb_val_of_index_zero t a
    (by match a with | ⟨0, _⟩ => rfl | ⟨1, _⟩ => rfl) (ix2 o k))]
  unfold V
  after_reads_at

/-- The bias of a layer. -/
theorem op15 (o : Fin 32) : (iblk m c 15 t : S32x1.Idx → EReal) (ix2 o 0) = (m ((c.tc (τ := τ)).loc main_arg17) : S32.Idx → EReal) (ix1 o) := by
  show (V m c main_v16 : S32x1.Idx → EReal) (((cfg0.win 15).blk t).view.emb (ix2 o 0)) = _
  rw [show ((cfg0.win 15).blk t).view.emb (ix2 o 0) = ix2 o 0 from funext fun a => Fin.ext ((cfg0.win 15).rect_emb_val_of_index_zero t a
    (by match a with | ⟨0, _⟩ => rfl | ⟨1, _⟩ => rfl) (ix2 o 0))]
  unfold V
  after_reads_at

/-- The projection to queries, keys and values. -/
theorem op16 (k : Fin 32) (j : Fin 1536) : (iblk m c 16 t : S32x1536.Idx → EReal) (ix2 k j) = (m ((c.tc (τ := τ)).loc main_arg18) : S32x1536.Idx → EReal) (ix2 k j) := by
  show (V m c main_arg18 : S32x1536.Idx → EReal) (((cfg0.win 16).blk t).view.emb (ix2 k j)) = _
  rw [show ((cfg0.win 16).blk t).view.emb (ix2 k j) = ix2 k j from funext fun a => Fin.ext ((cfg0.win 16).rect_emb_val_of_index_zero t a
    (by match a with | ⟨0, _⟩ => rfl | ⟨1, _⟩ => rfl) (ix2 k j))]
  rw [V_main_arg18]

/-- The output projection. -/
theorem op17 (k : Fin 512) (j : Fin 32) : (iblk m c 17 t : S512x32.Idx → EReal) (ix2 k j) = (m ((c.tc (τ := τ)).loc main_arg19) : S512x32.Idx → EReal) (ix2 k j) := by
  show (V m c main_arg19 : S512x32.Idx → EReal) (((cfg0.win 17).blk t).view.emb (ix2 k j)) = _
  rw [show ((cfg0.win 17).blk t).view.emb (ix2 k j) = ix2 k j from funext fun a => Fin.ext ((cfg0.win 17).rect_emb_val_of_index_zero t a
    (by match a with | ⟨0, _⟩ => rfl | ⟨1, _⟩ => rfl) (ix2 k j))]
  rw [V_main_arg19]

end Cert.KernelIdeal.Tile

end
-- ==== Proof.KernelMasks.lean ====
/- The weights of the four neighbours, lane by lane, as the kernel works them out from the lane number. -/
module

public import proofs.«01_k».proof.Proof.KernelTerms
public import proofs.«01_k».proof.Proof.Grid
public import Idealize.ShloMosaic.Lib.Pointwise
public import Idealize.ShloMosaic.Lib.Routing.Words
public import Idealize.ShloMosaic.Lib.WordCmp

@[expose] public section

noncomputable section

namespace Cert.KernelIdeal.Tile

open Idealize.ShloMosaic Cert.KernelIdeal Cert.KernelIdeal.Gen Cert.Proof.Grid

/-- The words of small numbers are not negative. -/
theorem word_slt {a : ℕ} (ha : a < 2 ^ 31) : IntOp.cmpi .slt (BitVec.ofNat 32 a) 0#32 = 0#1 := by
  rw [show (0#32) = BitVec.ofNat 32 0 from rfl, WordCmp.cmpi_slt_ofNat (by omega) (by omega)]
  simp

/-- The lane's image column within its patch. -/
theorem col_apply (n : Fin 49152) : k0_pay25 (ix2 0 n) = BitVec.ofNat 32 (n.val % 16) := by
  pointwise [k0_pay25]
  have hn := n.isLt
  rw [show Scalar.select (Scalar.cmpi CmpIPredicate.eq 16#32 0#32) 1#32 16#32 = BitVec.ofNat 32 16 from rfl,
    Routing.remsi_word _ (by omega) (by omega) (by omega), word_slt (by omega),
    show Scalar.cmpi CmpIPredicate.slt (BitVec.ofNat 32 16) 0#32 = 0#1 from rfl]
  simp [IntOp.xori, IntOp.andi, Scalar.select]

/-- The lane's image row. -/
theorem row_apply (n : Fin 49152) : k0_pay26 (ix2 0 n) = BitVec.ofNat 32 (n.val / 384) := by
  pointwise [k0_pay26]
  have hn := n.isLt
  rw [show (384#32) = BitVec.ofNat 32 384 from rfl, Routing.remsi_word _ (by omega) (by omega) (by omega),
    Routing.divsi_word _ (by omega) (by omega) (by omega), word_slt (by omega)]
  rcases Nat.eq_zero_or_pos n.val with h | h
  · rw [h]; rfl
  · have : IntOp.cmpi CmpIPredicate.sgt (BitVec.ofNat 32 n.val) 0#32 = 1#1 := by
      rw [show (0#32) = BitVec.ofNat 32 0 from rfl]
      exact (WordCmp.cmpi_sgt_ofNat_eq_one_iff (by omega) (by omega)).2 h
    rw [this, show IntOp.cmpi CmpIPredicate.ne (IntOp.subi (BitVec.setWidth 32 1#1) (BitVec.setWidth 32 0#1))
      (Scalar.subi (Scalar.extui (Scalar.cmpi CmpIPredicate.sgt (BitVec.ofNat 32 384) 0#32))
        (Scalar.extui (Scalar.cmpi CmpIPredicate.slt (BitVec.ofNat 32 384) 0#32))) = 0#1 from by decide]
    simp [IntOp.andi, Scalar.select]

set_option maxRecDepth 16384 in
/-- The lane's image row within its patch. -/
theorem patchRow_apply (n : Fin 49152) : k0_pay27 k0_pay26 sixteen (ix2 0 n) = BitVec.ofNat 32 (n.val / 384 % 16) := by
  unfold sixteen
  pointwise [k0_pay27]
  have hn := n.isLt
  rw [row_apply, show (16#32) = BitVec.ofNat 32 16 from rfl,
    Routing.remsi_word _ (by omega) (by omega) (by omega), word_slt (by omega),
    show Scalar.cmpi CmpIPredicate.slt (BitVec.ofNat 32 16) 0#32 = 0#1 from rfl]
  simp [IntOp.xori, IntOp.andi, Scalar.select]

/-- A test that two small numbers differ, as a count. -/
theorem count_ne (a b : ℕ) (ha : a < 2 ^ 31) (hb : b < 2 ^ 31) :
    (FloatOps.sitofp FTy.f32 (BitVec.setWidth 32 (IntOp.cmpi CmpIPredicate.ne (BitVec.ofNat 32 a) (BitVec.ofNat 32 b))) : Ideal FTy.f32)
      = ((if a ≠ b then 1 else 0 : ℝ) : EReal) := by
  rw [WordCmp.cmpi_ne_ofNat (by omega) (by omega)]
  by_cases h : a = b
  · rw [if_neg (by simpa using h), decide_eq_false (by simpa using h)]
    show (((BitVec.setWidth 32 0#1).toInt : ℝ) : EReal) = _
    simp
  · rw [if_pos h, decide_eq_true h]
    show (((BitVec.setWidth 32 1#1).toInt : ℝ) : EReal) = _
    simp

/-- A selection on such a test. -/
theorem select_ne {α : Type} (a b : ℕ) (ha : a < 2 ^ 31) (hb : b < 2 ^ 31) (x y : α) :
    Scalar.select (IntOp.cmpi CmpIPredicate.ne (BitVec.ofNat 32 a) (BitVec.ofNat 32 b)) x y = if a ≠ b then x else y := by
  rw [WordCmp.cmpi_ne_ofNat (by omega) (by omega)]
  by_cases h : a = b
  · rw [if_neg (by simpa using h), decide_eq_false (by simpa using h)]; rfl
  · rw [if_pos h, decide_eq_true h]; rfl

set_option maxRecDepth 16384 in
/-- One over the number of neighbours. -/
theorem invDeg_apply (n : Fin 49152) : (invDeg (F := Ideal) (ix2 0 n) : EReal) = ((1 / deg n.val : ℝ) : EReal) := by
  have hn := n.isLt
  unfold Tile.invDeg
  pointwise [k0_pay28]
  rw [col_apply, patchRow_apply, show (0#32) = BitVec.ofNat 32 0 from rfl, show (15#32) = BitVec.ofNat 32 15 from rfl,
    count_ne _ _ (by omega) (by omega), count_ne _ _ (by omega) (by omega), count_ne _ _ (by omega) (by omega),
    count_ne _ _ (by omega) (by omega)]
  have e : deg n.val = (((if n.val % 16 ≠ 0 then 1 else 0) + if n.val % 16 ≠ 15 then 1 else 0) + if n.val / 384 % 16 ≠ 0 then 1 else 0)
      + if n.val / 384 % 16 ≠ 15 then 1 else 0 := by
    unfold deg; rw [Fin.sum_univ_four]; rfl
  have e' := congrArg (fun r : ℝ => (r : EReal)) e
  simp only [EReal.coe_add] at e'
  rw [← e', Ideal.div_coe (deg_pos _).ne', one_mul]

/-- The four weights: one over the number of neighbours where there is a neighbour, and zero where there is none. -/
theorem wLeft_apply (n : Fin 49152) : (wLeft (F := Ideal) (ix2 0 n) : EReal) = ((if has 0 n.val then 1 / deg n.val else 0 : ℝ) : EReal) := by
  have hn := n.isLt
  unfold wLeft
  pointwise [k0_pay29]
  rw [show k0_pay28 (F := Ideal) k0_pay25 k0_pay26 sixteen (ix2 0 n) = _ from invDeg_apply n, col_apply, show (0#32) = BitVec.ofNat 32 0 from rfl,
    select_ne _ _ (by omega) (by omega)]
  by_cases h : has 0 n.val
  · rw [if_pos h, if_pos (show n.val % 16 ≠ 0 from h)]
  · rw [if_neg h, if_neg (show ¬ n.val % 16 ≠ 0 from h)]; rfl
theorem wRight_apply (n : Fin 49152) : (wRight (F := Ideal) (ix2 0 n) : EReal) = ((if has 1 n.val then 1 / deg n.val else 0 : ℝ) : EReal) := by
  have hn := n.isLt
  unfold wRight
  pointwise [k0_pay30]
  rw [show k0_pay28 (F := Ideal) k0_pay25 k0_pay26 sixteen (ix2 0 n) = _ from invDeg_apply n, col_apply, show (15#32) = BitVec.ofNat 32 15 from rfl,
    select_ne _ _ (by omega) (by omega)]
  by_cases h : has 1 n.val
  · rw [if_pos h, if_pos (show n.val % 16 ≠ 15 from h)]
  · rw [if_neg h, if_neg (show ¬ n.val % 16 ≠ 15 from h)]; rfl
theorem wUp_apply (n : Fin 49152) : (wUp (F := Ideal) (ix2 0 n) : EReal) = ((if has 2 n.val then 1 / deg n.val else 0 : ℝ) : EReal) := by
  have hn := n.isLt
  unfold wUp
  pointwise [k0_pay33, k0_pay31, k0_pay32]
  rw [invDeg_apply, patchRow_apply, show (0#32) = BitVec.ofNat 32 0 from rfl, select_ne _ _ (by omega) (by omega)]
  by_cases h : has 2 n.val
  · rw [if_pos h, if_pos (show n.val / 384 % 16 ≠ 0 from h)]
  · rw [if_neg h, if_neg (show ¬ n.val / 384 % 16 ≠ 0 from h)]; rfl
theorem wDown_apply (n : Fin 49152) : (wDown (F := Ideal) (ix2 0 n) : EReal) = ((if has 3 n.val then 1 / deg n.val else 0 : ℝ) : EReal) := by
  have hn := n.isLt
  unfold wDown
  pointwise [k0_pay34]
  rw [invDeg_apply, patchRow_apply, show (15#32) = BitVec.ofNat 32 15 from rfl, select_ne _ _ (by omega) (by omega)]
  by_cases h : has 3 n.val
  · rw [if_pos h, if_pos (show n.val / 384 % 16 ≠ 15 from h)]
  · rw [if_neg h, if_neg (show ¬ n.val / 384 % 16 ≠ 15 from h)]; rfl

end Cert.KernelIdeal.Tile

end
-- ==== Proof.KernelLane.lean ====
/- A layer of the kernel at one lane, and that over real features it is the network's layer at the lane's node. -/
module

public import proofs.«01_k».proof.Proof.KernelMasks

@[expose] public section

noncomputable section

namespace Cert.KernelIdeal.Tile

open Idealize.ShloMosaic Cert.KernelIdeal Cert.KernelIdeal.Gen Cert.Proof.Grid

/-- The lane one before, going round. -/
def left (n : Fin 49152) : Fin 49152 := if h : n.val < 1 then ⟨49151 + n.val, by omega⟩ else ⟨n.val - 1, by omega⟩
/-- The lane one after, going round. -/
def right (n : Fin 49152) : Fin 49152 := if h : n.val < 49151 then ⟨1 + n.val, by omega⟩ else ⟨n.val - 49151, by omega⟩
/-- The lane one image row before, going round. -/
def up (n : Fin 49152) : Fin 49152 := if h : n.val < 384 then ⟨48768 + n.val, by omega⟩ else ⟨n.val - 384, by omega⟩
/-- The lane one image row after, going round. -/
def down (n : Fin 49152) : Fin 49152 := if h : n.val < 48768 then ⟨384 + n.val, by omega⟩ else ⟨n.val - 48768, by omega⟩

/-- What a layer leaves on one lane of one channel: `root` and `msg` the channel's weights, `g` its four gates, `c` its bias. -/
def lane {K : ℕ} (root msg : Fin K → EReal) (g : Fin 4 → EReal) (c : EReal) (h : Fin K → Fin 49152 → EReal) (n : Fin 49152) : EReal :=
  max ((∑ x, root x * h x n) + ((((∑ x, msg x * g 0 * h x (left n)) * wLeft (F := Ideal) (ix2 0 n)
    + (∑ x, msg x * g 1 * h x (right n)) * wRight (F := Ideal) (ix2 0 n))
    + (∑ x, msg x * g 2 * h x (up n)) * wUp (F := Ideal) (ix2 0 n))
    + (∑ x, msg x * g 3 * h x (down n)) * wDown (F := Ideal) (ix2 0 n)) + c) 0

/-- The four aggregated terms of a lane may be given in any spelling. -/
theorem lane_eq {K : ℕ} {root msg : Fin K → EReal} {g : Fin 4 → EReal} {c : EReal} {h : Fin K → Fin 49152 → EReal} {n : Fin 49152}
    {A B C D : EReal} (hA : A = ∑ x, msg x * g 0 * h x (left n)) (hB : B = ∑ x, msg x * g 1 * h x (right n))
    (hC : C = ∑ x, msg x * g 2 * h x (up n)) (hD : D = ∑ x, msg x * g 3 * h x (down n)) :
    lane root msg g c h n = max ((∑ x, root x * h x n) + (((A * wLeft (F := Ideal) (ix2 0 n) + B * wRight (F := Ideal) (ix2 0 n))
      + C * wUp (F := Ideal) (ix2 0 n)) + D * wDown (F := Ideal) (ix2 0 n)) + c) 0 := by
  subst hA hB hC hD; rfl

/-- A finite sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

section
variable {K : ℕ} (hr : ℕ → Fin K → ℝ) (t : ℕ) (n : Fin 49152) (ms : Fin K → ℝ) (g : Fin 4 → ℝ) (h : Fin K → Fin 49152 → EReal)
    (hh : ∀ x n, h x n = ((hr (49152 * t + n.val) x : ℝ) : EReal))
include hh

/-- One neighbour's weighted message. -/
theorem term_real (s : Fin 4) (m : Fin 49152) (hm : has s n.val → 49152 * t + m.val = nbr s (49152 * t + n.val)) :
    (∑ x, (ms x : EReal) * (g s : EReal) * h x m) * ((if has s n.val then 1 / deg n.val else 0 : ℝ) : EReal)
      = (((if has s (49152 * t + n.val) then (∑ k, hr (nbr s (49152 * t + n.val)) k * ms k) * g s else 0) / deg (49152 * t + n.val) : ℝ) : EReal) := by
  have e : (∑ x, (ms x : EReal) * (g s : EReal) * h x m) = ((∑ x, ms x * g s * hr (49152 * t + m.val) x : ℝ) : EReal) := by
    rw [coe_sum]
    exact Finset.sum_congr rfl fun x _ => by rw [hh, EReal.coe_mul, EReal.coe_mul]
  rw [e, ← EReal.coe_mul]
  refine congrArg _ ?_
  rw [deg_add]
  by_cases hs : has s n.val
  · rw [if_pos hs, if_pos ((has_add s t _).2 hs), hm hs, mul_one_div, Finset.sum_mul]
    refine congrArg (· / deg n.val) (Finset.sum_congr rfl fun x _ => ?_)
    ring
  · rw [if_neg hs, if_neg (fun q => hs ((has_add s t _).1 q)), mul_zero, zero_div]

/-- A lane over real features. -/
theorem lane_real (rt : Fin K → ℝ) (b : ℝ) :
    lane (fun x => (rt x : EReal)) (fun x => (ms x : EReal)) (fun s => (g s : EReal)) (b : EReal) h n
      = ((max ((∑ k, hr (49152 * t + n.val) k * rt k)
          + (∑ s : Fin 4, if has s (49152 * t + n.val) then (∑ k, hr (nbr s (49152 * t + n.val)) k * ms k) * g s else 0)
            / deg (49152 * t + n.val) + b) 0 : ℝ) : EReal) := by
  have hn := n.isLt
  have l : has 0 n.val → 49152 * t + (left n).val = nbr 0 (49152 * t + n.val) := fun q => by
    have q' : n.val % 16 ≠ 0 := q
    unfold left
    rw [dif_neg (by omega)]
    show _ + (n.val - 1) = 49152 * t + n.val - 1
    omega
  have r : has 1 n.val → 49152 * t + (right n).val = nbr 1 (49152 * t + n.val) := fun q => by
    have q' : n.val % 16 ≠ 15 := q
    unfold right
    rw [dif_pos (by omega)]
    show _ + (1 + n.val) = 49152 * t + n.val + 1
    omega
  have u : has 2 n.val → 49152 * t + (up n).val = nbr 2 (49152 * t + n.val) := fun q => by
    have q' : n.val / 384 % 16 ≠ 0 := q
    unfold up
    rw [dif_neg (by omega)]
    show _ + (n.val - 384) = 49152 * t + n.val - 384
    omega
  have d : has 3 n.val → 49152 * t + (down n).val = nbr 3 (49152 * t + n.val) := fun q => by
    have q' : n.val / 384 % 16 ≠ 15 := q
    unfold down
    rw [dif_pos (by omega)]
    show _ + (384 + n.val) = 49152 * t + n.val + 384
    omega
  have e : (∑ x, (rt x : EReal) * h x n) = ((∑ k, hr (49152 * t + n.val) k * rt k : ℝ) : EReal) := by
    rw [coe_sum]
    exact Finset.sum_congr rfl fun x _ => by rw [hh, EReal.coe_mul, mul_comm]
  unfold lane
  rw [wLeft_apply, wRight_apply, wUp_apply, wDown_apply, term_real hr t n ms g h hh 0 _ l, term_real hr t n ms g h hh 1 _ r,
    term_real hr t n ms g h hh 2 _ u, term_real hr t n ms g h hh 3 _ d, e, Fin.sum_univ_four, add_div, add_div, add_div, coe_max,
    EReal.coe_add, EReal.coe_add, EReal.coe_add, EReal.coe_add, EReal.coe_add]
  rfl
end

end Cert.KernelIdeal.Tile

end
-- ==== Proof.KernelLayer0.lean ====
/- The kernel's first layer read at a lane of a channel. -/
module

public import proofs.«01_k».proof.Proof.KernelLane

@[expose] public section

noncomputable section

namespace Cert.KernelIdeal.Tile

open Idealize.ShloMosaic Cert.KernelIdeal Cert.KernelIdeal.Gen

set_option maxRecDepth 16384 in
set_option maxHeartbeats 4000000 in
/-- The first layer at a lane. -/
theorem layer0_apply (x0 : FVec Ideal S1x1x49152 .f32) (x1 : FVec Ideal S2x4 .f32) (x2 x3 : FVec Ideal S8x1 .f32) (x4 x5 : FVec Ideal S16x8 .f32)
    (x6 : FVec Ideal S16x2 .f32) (x7 : FVec Ideal S16x1 .f32) (o : Fin 16) (n : Fin 49152) :
    layer0 x0 x1 x2 x3 x4 x5 x6 x7 (ix2 o n)
      = lane (fun x => x4 (ix2 o x)) (fun x => x5 (ix2 o x)) (fun s => k0_pay40 (F := Ideal) x1 x6 (ix2 o s)) (x7 (ix2 o 0))
          (fun c n => k0_pay36 (F := Ideal) x2 x0 x3 (ix2 c n)) n := by
  unfold layer0
  pointwise [k0_pay45, k0_pay37, k0_pay39, k0_pay41, k0_pay42, k0_pay43, k0_pay44, k0_pay38]
  have ho := o.isLt
  simp only [show ¬ (32 + (o:ℕ) < 16) by omega, show ¬ (32 + (o:ℕ) - 16 < 16) by omega, show (32 + (o:ℕ) - 16 - 16 < 16) by omega, show ¬ (48 + (o:ℕ) < 16) by omega, show ¬ (48 + (o:ℕ) - 16 < 16) by omega, show ¬ (48 + (o:ℕ) - 16 - 16 < 16) by omega, show (48 + (o:ℕ) - 16 - 16 - 16 < 16) by omega, show ¬ (64 + (o:ℕ) < 16) by omega, show ¬ (64 + (o:ℕ) - 16 < 16) by omega, show ¬ (64 + (o:ℕ) - 16 - 16 < 16) by omega, show ¬ (64 + (o:ℕ) - 16 - 16 - 16 < 16) by omega, dite_false, dite_true]
  have e2 : (⟨32 + (o:ℕ) - 16 - 16, by omega⟩ : Fin 16) = o := Fin.ext (by show 32 + (o:ℕ) - 16 - 16 = o; omega)
  have e3 : (⟨48 + (o:ℕ) - 16 - 16 - 16, by omega⟩ : Fin 16) = o := Fin.ext (by show 48 + (o:ℕ) - 16 - 16 - 16 = o; omega)
  have e4 : (⟨64 + (o:ℕ) - 16 - 16 - 16 - 16, by omega⟩ : Fin 16) = o := Fin.ext (by show 64 + (o:ℕ) - 16 - 16 - 16 - 16 = o; omega)
  unfold lane
  refine congrArg (fun z => max z 0) (Ideal.add_congr (Ideal.add_congr rfl (Ideal.add_congr (Ideal.add_congr (Ideal.add_congr
    (Ideal.mul_congr ?_ rfl) (Ideal.mul_congr ?_ rfl)) (Ideal.mul_congr ?_ rfl)) (Ideal.mul_congr ?_ rfl))) rfl)
  · by_cases hn : (n:ℕ) < 1 <;> simp only [left, hn, ↓reduceDIte]
  · by_cases hn : (n:ℕ) < 49151 <;> simp only [right, hn, ↓reduceDIte, e2]
  · by_cases hn : (n:ℕ) < 384 <;> simp only [up, hn, ↓reduceDIte, e3]
  · by_cases hn : (n:ℕ) < 48768 <;> simp only [down, hn, ↓reduceDIte, e4]

end Cert.KernelIdeal.Tile

end
-- ==== Proof.KernelLayer1.lean ====
/- The kernel's second layer read at a lane of a channel. -/
module

public import proofs.«01_k».proof.Proof.KernelLane

@[expose] public section

noncomputable section

namespace Cert.KernelIdeal.Tile

open Idealize.ShloMosaic Cert.KernelIdeal Cert.KernelIdeal.Gen

set_option maxRecDepth 16384 in
set_option maxHeartbeats 4000000 in
/-- The second layer at a lane. -/
theorem layer1_apply (h : FVec Ideal S16x49152 .f32) (x1 : FVec Ideal S2x4 .f32) (x8 x9 : FVec Ideal S16x16 .f32)
    (x10 : FVec Ideal S16x2 .f32) (x11 : FVec Ideal S16x1 .f32) (o : Fin 16) (n : Fin 49152) :
    layer1 h x1 x8 x9 x10 x11 (ix2 o n)
      = lane (fun x => x8 (ix2 o x)) (fun x => x9 (ix2 o x)) (fun s => k0_pay49 (F := Ideal) (k0_pay35 x1) x10 (ix2 o s)) (x11 (ix2 o 0))
          (fun c n => h (ix2 c n)) n := by
  unfold layer1
  pointwise [k0_pay52, k0_pay46, k0_pay47, k0_pay48, k0_pay50, k0_pay51]
  have ho := o.isLt
  simp only [show ¬ (32 + (o:ℕ) < 16) by omega, show ¬ (32 + (o:ℕ) - 16 < 16) by omega, show (32 + (o:ℕ) - 16 - 16 < 16) by omega, show ¬ (48 + (o:ℕ) < 16) by omega, show ¬ (48 + (o:ℕ) - 16 < 16) by omega, show ¬ (48 + (o:ℕ) - 16 - 16 < 16) by omega, show (48 + (o:ℕ) - 16 - 16 - 16 < 16) by omega, show ¬ (64 + (o:ℕ) < 16) by omega, show ¬ (64 + (o:ℕ) - 16 < 16) by omega, show ¬ (64 + (o:ℕ) - 16 - 16 < 16) by omega, show ¬ (64 + (o:ℕ) - 16 - 16 - 16 < 16) by omega, dite_false, dite_true]
  have e2 : (⟨32 + (o:ℕ) - 16 - 16, by omega⟩ : Fin 16) = o := Fin.ext (by show 32 + (o:ℕ) - 16 - 16 = o; omega)
  have e3 : (⟨48 + (o:ℕ) - 16 - 16 - 16, by omega⟩ : Fin 16) = o := Fin.ext (by show 48 + (o:ℕ) - 16 - 16 - 16 = o; omega)
  have e4 : (⟨64 + (o:ℕ) - 16 - 16 - 16 - 16, by omega⟩ : Fin 16) = o := Fin.ext (by show 64 + (o:ℕ) - 16 - 16 - 16 - 16 = o; omega)
  unfold lane
  refine congrArg (fun z => max z 0) (Ideal.add_congr (Ideal.add_congr rfl (Ideal.add_congr (Ideal.add_congr (Ideal.add_congr
    (Ideal.mul_congr ?_ rfl) (Ideal.mul_congr ?_ rfl)) (Ideal.mul_congr ?_ rfl)) (Ideal.mul_congr ?_ rfl))) rfl)
  · by_cases hn : (n:ℕ) < 1 <;> simp only [left, hn, ↓reduceDIte]
  · by_cases hn : (n:ℕ) < 49151 <;> simp only [right, hn, ↓reduceDIte, e2]
  · by_cases hn : (n:ℕ) < 384 <;> simp only [up, hn, ↓reduceDIte, e3]
  · by_cases hn : (n:ℕ) < 48768 <;> simp only [down, hn, ↓reduceDIte, e4]

end Cert.KernelIdeal.Tile

end
-- ==== Proof.KernelLayer2.lean ====
/- The kernel's third layer read at a lane of a channel. -/
module

public import proofs.«01_k».proof.Proof.KernelLane

@[expose] public section

noncomputable section

namespace Cert.KernelIdeal.Tile

open Idealize.ShloMosaic Cert.KernelIdeal Cert.KernelIdeal.Gen

set_option maxRecDepth 16384 in
set_option maxHeartbeats 4000000 in
/-- The third layer at a lane. -/
theorem layer2_apply (h : FVec Ideal S16x49152 .f32) (x1 : FVec Ideal S2x4 .f32) (x12 x13 : FVec Ideal S32x16 .f32)
    (x14 : FVec Ideal S32x2 .f32) (x15 : FVec Ideal S32x1 .f32) (o : Fin 32) (n : Fin 49152) :
    layer2 h x1 x12 x13 x14 x15 (ix2 o n)
      = lane (fun x => x12 (ix2 o x)) (fun x => x13 (ix2 o x)) (fun s => Ideal.logistic (∑ x, x14 (ix2 o x) * x1 (ix2 x s))) (x15 (ix2 o 0))
          (fun c n => h (ix2 c n)) n := by
  unfold layer2
  pointwise [k0_pay56, k0_pay53, k0_pay54, k0_pay55, k0_pay35]
  have ho := o.isLt
  simp only [show ¬ (64 + (o:ℕ) < 32) by omega, show ¬ (64 + (o:ℕ) - 32 < 32) by omega, show (64 + (o:ℕ) - 32 - 32 < 32) by omega, show ¬ (96 + (o:ℕ) < 32) by omega, show ¬ (96 + (o:ℕ) - 32 < 32) by omega, show ¬ (96 + (o:ℕ) - 32 - 32 < 32) by omega, show (96 + (o:ℕ) - 32 - 32 - 32 < 32) by omega, show ¬ (128 + (o:ℕ) < 32) by omega, show ¬ (128 + (o:ℕ) - 32 < 32) by omega, show ¬ (128 + (o:ℕ) - 32 - 32 < 32) by omega, show ¬ (128 + (o:ℕ) - 32 - 32 - 32 < 32) by omega, dite_false, dite_true]
  have e2 : (⟨64 + (o:ℕ) - 32 - 32, by omega⟩ : Fin 32) = o := Fin.ext (by show 64 + (o:ℕ) - 32 - 32 = o; omega)
  have e3 : (⟨96 + (o:ℕ) - 32 - 32 - 32, by omega⟩ : Fin 32) = o := Fin.ext (by show 96 + (o:ℕ) - 32 - 32 - 32 = o; omega)
  have e4 : (⟨128 + (o:ℕ) - 32 - 32 - 32 - 32, by omega⟩ : Fin 32) = o := Fin.ext (by show 128 + (o:ℕ) - 32 - 32 - 32 - 32 = o; omega)
  unfold lane
  refine congrArg (fun z => max z 0) (Ideal.add_congr (Ideal.add_congr rfl (Ideal.add_congr (Ideal.add_congr (Ideal.add_congr
    (Ideal.mul_congr ?_ rfl) (Ideal.mul_congr ?_ rfl)) (Ideal.mul_congr ?_ rfl)) (Ideal.mul_congr ?_ rfl))) rfl)
  · by_cases hn : (n:ℕ) < 1 <;> simp only [left, hn, ↓reduceDIte]
  · by_cases hn : (n:ℕ) < 49151 <;> simp only [right, hn, ↓reduceDIte, e2]
  · by_cases hn : (n:ℕ) < 384 <;> simp only [up, hn, ↓reduceDIte, e3]
  · by_cases hn : (n:ℕ) < 48768 <;> simp only [down, hn, ↓reduceDIte, e4]

end Cert.KernelIdeal.Tile

end
-- ==== Proof.KernelPool.lean ====
/- The kernel's pooling: a row per patch, the largest of the patch's 256 lanes in each channel. -/
module

public import proofs.«01_k».proof.Proof.KernelTerms
public import Idealize.ShloMosaic.Lib.Pointwise

@[expose] public section

noncomputable section

namespace Cert.KernelIdeal.Tile

open Idealize.ShloMosaic Cert.KernelIdeal Cert.KernelIdeal.Gen

/-- The larger of sixteen, taken one after another. -/
theorem sup16 (f : Fin 16 → EReal) : max (max (max (max (max (max (max (max (max (max (max (max (max (max (max (f 0) (f 1)) (f 2)) (f 3)) (f 4)) (f 5)) (f 6)) (f 7)) (f 8)) (f 9)) (f 10)) (f 11)) (f 12)) (f 13)) (f 14)) (f 15) = Finset.univ.sup f := by
  apply le_antisymm
  · simp only [max_le_iff]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact Finset.le_sup (Finset.mem_univ _)
  · refine Finset.sup_le fun i _ => ?_
    fin_cases i <;> simp [le_max_iff]

/-- The bits of minus infinity. -/
theorem bits_bot : Ideal.ofBits FTy.f32 0xFF800000#32 = (⊥ : EReal) := by
  simp [Ideal.ofBits, Ideal.ieee]

/-- A fold of maxima from minus infinity. -/
theorem fold_sup {ι : Type} [Fintype ι] (f : ι → EReal) : Finset.univ.fold max (Ideal.ofBits FTy.f32 0xFF800000#32) f = Finset.univ.sup f := by
  rw [bits_bot]; rfl

/-- The lane of row `r`, column `x` of patch `p` of band `b`. -/
def spot (b : Fin 8) (p : Fin 24) (x r : Fin 16) : Fin 49152 := ⟨(6144 * b.val + 384 * r.val) + (p.val * 16 + x.val), by omega⟩

/-- The largest lane of patch `p` of band `b` in channel `c`. -/
def band (h : FVec Ideal S32x49152 .f32) (b : Fin 8) (p : Fin 24) (c : Fin 32) : EReal :=
  Finset.univ.sup fun x : Fin 16 => Finset.univ.sup fun r : Fin 16 => h (ix2 c (spot b p x r))

theorem band_congr (h : FVec Ideal S32x49152 .f32) {b b' : Fin 8} {p p' : Fin 24} (c : Fin 32) (hb : b.val = b'.val) (hp : p.val = p'.val) :
    band h b p c = band h b' p' c := by
  rw [Fin.ext hb, Fin.ext hp]

set_option maxRecDepth 16384 in
/-- The first band's first four image rows. -/
theorem firstRow_apply (h : FVec Ideal S16x49152 .f32) (x1 : FVec Ideal S2x4 .f32) (x12 x13 : FVec Ideal S32x16 .f32) (x14 : FVec Ideal S32x2 .f32)
    (x15 : FVec Ideal S32x1 .f32) (c : Fin 32) (l : Fin 384) :
    firstRow h x1 x12 x13 x14 x15 (ix2 c l)
      = max (max (max (layer2 h x1 x12 x13 x14 x15 (ix2 c ⟨0 + l.val, by omega⟩)) (layer2 h x1 x12 x13 x14 x15 (ix2 c ⟨384 + l.val, by omega⟩)))
          (layer2 h x1 x12 x13 x14 x15 (ix2 c ⟨768 + l.val, by omega⟩))) (layer2 h x1 x12 x13 x14 x15 (ix2 c ⟨1152 + l.val, by omega⟩)) := by
  rw [show (⟨0 + l.val, by omega⟩ : Fin 49152) = ⟨l.val, by omega⟩ from Fin.ext (Nat.zero_add _)]
  unfold firstRow layer2
  pointwise [k0_pay57]

set_option maxRecDepth 16384 in
theorem band0_apply (h : FVec Ideal S32x49152 .f32) (r : FVec Ideal S32x384 .f32)
    (hr : ∀ (c : Fin 32) (l : Fin 384), r (ix2 c l) = max (max (max (h (ix2 c ⟨0 + l.val, by omega⟩)) (h (ix2 c ⟨384 + l.val, by omega⟩)))
          (h (ix2 c ⟨768 + l.val, by omega⟩))) (h (ix2 c ⟨1152 + l.val, by omega⟩))) (p : Fin 24) (c : Fin 32) : k0_pay58 (F := Ideal) h r (ix2 p c) = band h 0 p c := by
  pointwise [k0_pay58]
  simp only [hr]
  exact (congrArg (fun f => Finset.univ.fold max _ f) (funext fun x => sup16 fun r => h (ix2 c (spot 0 p x r)))).trans (fold_sup _)

set_option maxRecDepth 16384 in
theorem band1_apply (h : FVec Ideal S32x49152 .f32) (p : Fin 24) (c : Fin 32) : k0_pay60 (F := Ideal) (k0_pay59 h) (ix2 p c) = band h 1 p c := by
  pointwise [k0_pay60, k0_pay59]
  exact (congrArg (fun f => Finset.univ.fold max _ f) (funext fun x => sup16 fun r => h (ix2 c (spot 1 p x r)))).trans (fold_sup _)

set_option maxRecDepth 16384 in
theorem band2_apply (h : FVec Ideal S32x49152 .f32) (p : Fin 24) (c : Fin 32) : k0_pay61 (F := Ideal) h (ix2 p c) = band h 2 p c := by
  pointwise [k0_pay61]
  exact (congrArg (fun f => Finset.univ.fold max _ f) (funext fun x => sup16 fun r => h (ix2 c (spot 2 p x r)))).trans (fold_sup _)

set_option maxRecDepth 16384 in
theorem band3_apply (h : FVec Ideal S32x49152 .f32) (p : Fin 24) (c : Fin 32) : k0_pay64 (F := Ideal) h (k0_pay62 h) (k0_pay63 h) (ix2 p c) = band h 3 p c := by
  pointwise [k0_pay64, k0_pay62, k0_pay63]
  exact (congrArg (fun f => Finset.univ.fold max _ f) (funext fun x => sup16 fun r => h (ix2 c (spot 3 p x r)))).trans (fold_sup _)

set_option maxRecDepth 16384 in
theorem band4_apply (h : FVec Ideal S32x49152 .f32) (p : Fin 24) (c : Fin 32) : k0_pay65 (F := Ideal) h (ix2 p c) = band h 4 p c := by
  pointwise [k0_pay65]
  exact (congrArg (fun f => Finset.univ.fold max _ f) (funext fun x => sup16 fun r => h (ix2 c (spot 4 p x r)))).trans (fold_sup _)

set_option maxRecDepth 16384 in
theorem band5_apply (h : FVec Ideal S32x49152 .f32) (p : Fin 24) (c : Fin 32) : k0_pay68 (F := Ideal) h (k0_pay66 h) (k0_pay67 h) (ix2 p c) = band h 5 p c := by
  pointwise [k0_pay68, k0_pay66, k0_pay67]
  exact (congrArg (fun f => Finset.univ.fold max _ f) (funext fun x => sup16 fun r => h (ix2 c (spot 5 p x r)))).trans (fold_sup _)

set_option maxRecDepth 16384 in
theorem band6_apply (h : FVec Ideal S32x49152 .f32) (p : Fin 24) (c : Fin 32) : k0_pay69 (F := Ideal) h (ix2 p c) = band h 6 p c := by
  pointwise [k0_pay69]
  exact (congrArg (fun f => Finset.univ.fold max _ f) (funext fun x => sup16 fun r => h (ix2 c (spot 6 p x r)))).trans (fold_sup _)

set_option maxRecDepth 16384 in
set_option maxHeartbeats 4000000 in
/-- The last band, and the bands one under another. -/
theorem stack_apply (h : FVec Ideal S32x49152 .f32) (v0 v1 v2 v3 v4 v5 v6 : FVec Ideal S24x32 .f32) (n : Fin 192) (c : Fin 32) :
    k0_pay1 (F := Ideal) h v0 v1 v2 v3 v4 v5 v6 (k0_pay70 h) (k0_pay71 h) (ix2 n c)
      = if h0 : n.val < 24 then v0 (ix2 ⟨n.val, h0⟩ c) else
        if h1 : n.val - 24 < 24 then v1 (ix2 ⟨n.val - 24, h1⟩ c) else
        if h2 : n.val - 24 - 24 < 24 then v2 (ix2 ⟨n.val - 24 - 24, h2⟩ c) else
        if h3 : n.val - 24 - 24 - 24 < 24 then v3 (ix2 ⟨n.val - 24 - 24 - 24, h3⟩ c) else
        if h4 : n.val - 24 - 24 - 24 - 24 < 24 then v4 (ix2 ⟨n.val - 24 - 24 - 24 - 24, h4⟩ c) else
        if h5 : n.val - 24 - 24 - 24 - 24 - 24 < 24 then v5 (ix2 ⟨n.val - 24 - 24 - 24 - 24 - 24, h5⟩ c) else
        if h6 : n.val - 24 - 24 - 24 - 24 - 24 - 24 < 24 then v6 (ix2 ⟨n.val - 24 - 24 - 24 - 24 - 24 - 24, h6⟩ c) else
        band h 7 ⟨n.val - 24 - 24 - 24 - 24 - 24 - 24 - 24, by omega⟩ c := by
  pointwise [k0_pay1, k0_pay70, k0_pay71]
  refine dite_congr rfl (fun _ => rfl) fun _ => dite_congr rfl (fun _ => rfl) fun _ => dite_congr rfl (fun _ => rfl) fun _ =>
    dite_congr rfl (fun _ => rfl) fun _ => dite_congr rfl (fun _ => rfl) fun _ => dite_congr rfl (fun _ => rfl) fun _ =>
    dite_congr rfl (fun _ => rfl) fun _ => ?_
  exact (congrArg (fun f => Finset.univ.fold max _ f) (funext fun x => sup16 fun r =>
    h (ix2 c (spot 7 ⟨n.val - 24 - 24 - 24 - 24 - 24 - 24 - 24, by omega⟩ x r)))).trans (fold_sup _)

/-- A row of the pooled tile. -/
theorem pool_apply (h : FVec Ideal S32x49152 .f32) (r : FVec Ideal S32x384 .f32)
    (hr : ∀ (c : Fin 32) (l : Fin 384), r (ix2 c l) = max (max (max (h (ix2 c ⟨0 + l.val, by omega⟩)) (h (ix2 c ⟨384 + l.val, by omega⟩)))
          (h (ix2 c ⟨768 + l.val, by omega⟩))) (h (ix2 c ⟨1152 + l.val, by omega⟩))) (n : Fin 192) (c : Fin 32) :
    pool h r (ix2 n c) = band h ⟨n.val / 24, by omega⟩ ⟨n.val % 24, by omega⟩ c := by
  unfold pool
  rw [stack_apply]
  have hn := n.isLt
  split_ifs
  · exact (band0_apply h r hr _ c).trans (band_congr h c (by show 0 = n.val / 24; omega) (by show n.val = n.val % 24; omega))
  · exact (band1_apply h _ c).trans (band_congr h c (by show 1 = n.val / 24; omega) (by show n.val - 24 = n.val % 24; omega))
  · exact (band2_apply h _ c).trans (band_congr h c (by show 2 = n.val / 24; omega) (by show n.val - 24 - 24 = n.val % 24; omega))
  · exact (band3_apply h _ c).trans (band_congr h c (by show 3 = n.val / 24; omega) (by show n.val - 24 - 24 - 24 = n.val % 24; omega))
  · exact (band4_apply h _ c).trans (band_congr h c (by show 4 = n.val / 24; omega) (by show n.val - 24 - 24 - 24 - 24 = n.val % 24; omega))
  · exact (band5_apply h _ c).trans (band_congr h c (by show 5 = n.val / 24; omega) (by show n.val - 24 - 24 - 24 - 24 - 24 = n.val % 24; omega))
  · exact (band6_apply h _ c).trans (band_congr h c (by show 6 = n.val / 24; omega) (by show n.val - 24 - 24 - 24 - 24 - 24 - 24 = n.val % 24; omega))
  · exact band_congr h c (by show 7 = n.val / 24; omega) (by show n.val - 24 - 24 - 24 - 24 - 24 - 24 - 24 = n.val % 24; omega)

end Cert.KernelIdeal.Tile

end
-- ==== Proof.KernelTokens.lean ====
/- The kernel's tokens are the network's. -/
module

public import proofs.«01_k».proof.Proof.Tokens
public import proofs.«01_k».proof.Proof.KernelOperands
public import proofs.«01_k».proof.Proof.KernelLayer0
public import proofs.«01_k».proof.Proof.KernelLayer1
public import proofs.«01_k».proof.Proof.KernelLayer2
public import proofs.«01_k».proof.Proof.KernelPool

@[expose] public section

noncomputable section

namespace Cert.KernelIdeal.Tile

open Idealize.ShloMosaic Cert.KernelIdeal Cert.KernelIdeal.Gen Cert.Proof.Grid

/-- A lane over real weights, gates, bias and features is the network's layer at the node. -/
theorem lane_net {K O : ℕ} (hr : ℕ → Fin K → ℝ) (root msg : Fin K → Fin O → ℝ) (g : Fin 4 → Fin O → ℝ) (b : Fin O → ℝ) (t : ℕ) (o : Fin O) (n : Fin 49152)
    (R M : Fin K → EReal) (G : Fin 4 → EReal) (B : EReal) (H : Fin K → Fin 49152 → EReal)
    (hR : ∀ x, R x = ((root x o : ℝ) : EReal)) (hM : ∀ x, M x = ((msg x o : ℝ) : EReal)) (hG : ∀ s, G s = ((g s o : ℝ) : EReal))
    (hB : B = ((b o : ℝ) : EReal)) (hH : ∀ x n, H x n = ((hr (49152 * t + n.val) x : ℝ) : EReal)) :
    lane R M G B H n = ((conv hr root msg g b (49152 * t + n.val) o : ℝ) : EReal) := by
  obtain rfl : R = fun x => ((root x o : ℝ) : EReal) := funext hR
  obtain rfl : M = fun x => ((msg x o : ℝ) : EReal) := funext hM
  obtain rfl : G = fun s => ((g s o : ℝ) : EReal) := funext hG
  subst hB
  exact lane_real hr t n (fun x => msg x o) (fun s => g s o) H hH (fun x => root x o) (b o)

/-- The edge attributes are used as they are. -/
theorem keep_apply (x1 : FVec Ideal S2x4 .f32) (k : Fin 2) (s : Fin 4) : k0_pay35 (F := Ideal) x1 (ix2 k s) = x1 (ix2 k s) := by
  pointwise [k0_pay35]

/-- The gates of the first layer. -/
theorem gate0_apply (x1 : FVec Ideal S2x4 .f32) (x6 : FVec Ideal S16x2 .f32) (o : Fin 16) (s : Fin 4) :
    k0_pay40 (F := Ideal) x1 x6 (ix2 o s) = Ideal.logistic (∑ x, x6 (ix2 o x) * x1 (ix2 x s)) := by
  pointwise [k0_pay40]
  simp only [keep_apply]

/-- The gates of the second layer. -/
theorem gate1_apply (x1 : FVec Ideal S2x4 .f32) (x6 : FVec Ideal S16x2 .f32) (o : Fin 16) (s : Fin 4) :
    k0_pay49 (F := Ideal) (k0_pay35 x1) x6 (ix2 o s) = Ideal.logistic (∑ x, x6 (ix2 o x) * x1 (ix2 x s)) := by
  pointwise [k0_pay49]
  simp only [keep_apply]

/-- The features at the start. -/
theorem features_apply (x0 : FVec Ideal S1x1x49152 .f32) (x2 x3 : FVec Ideal S8x1 .f32) (k : Fin 8) (n : Fin 49152) :
    k0_pay36 (F := Ideal) x2 x0 x3 (ix2 k n) = x2 (ix2 k 0) * x0 (ix3 0 0 n) + x3 (ix2 k 0) := by
  pointwise [k0_pay36]

/-- A gate, its two factors the other way round. -/
theorem gate_comm (w a w' a' : Fin 2 → EReal) (hw : ∀ k, w k = w' k) (ha : ∀ k, a k = a' k) :
    Ideal.logistic (∑ k, w k * a k) = Ideal.logistic (∑ k, a' k * w' k) :=
  congrArg Ideal.logistic (Finset.sum_congr rfl fun k _ => by rw [hw, ha, mul_comm])

/-- A lane of a patch of a tile is a node of the patch. -/
theorem spot_node (p : ℕ) (q : Fin 16 × Fin 16) :
    49152 * (p / 192) + (spot ⟨p % 192 / 24, by omega⟩ ⟨p % 192 % 24, by omega⟩ q.1 q.2).val = node p q := by
  show 49152 * (p / 192) + ((6144 * (p % 192 / 24) + 384 * q.2.val) + ((p % 192 % 24) * 16 + q.1.val)) = 6144 * (p / 24) + 384 * q.2.val + (16 * (p % 24) + q.1.val)
  omega

/-- The largest lane of a patch, over real features, is the patch's token. -/
theorem band_tok (N : Net) (H : FVec Ideal S32x49152 .f32) (b : Fin 8) (p : Fin 24) (n : ℕ) (k : Fin 32)
    (f : ∀ q : Fin 16 × Fin 16, H (ix2 k (spot b p q.1 q.2)) = ((N.h3 (node n q) k : ℝ) : EReal)) :
    band H b p k = ((N.tok n k : ℝ) : EReal) := by
  refine N.eq_tok n k _ ?_ fun q => ?_
  · refine Finset.sup_le fun x _ => Finset.sup_le fun r _ => ?_
    rw [f (x, r), EReal.coe_le_coe_iff]
    exact N.h3_le_tok n k (x, r)
  · rw [← f q]
    have i1 := Finset.le_sup (f := fun r : Fin 16 => (H (ix2 k (spot b p q.1 r)) : EReal)) (Finset.mem_univ q.2)
    exact le_trans i1 (Finset.le_sup (f := fun x : Fin 16 => Finset.univ.sup fun r : Fin 16 => (H (ix2 k (spot b p x r)) : EReal)) (Finset.mem_univ q.1))

section
variable (m : (ℓ : Loc nD τ sig) → Buf (Elt Ideal) ℓ) (c : Dev nD) {N : Net}
  (h : Meets N (m ((c.tc (τ := τ)).loc main_arg0)) (m ((c.tc (τ := τ)).loc main_arg1)) (m ((c.tc (τ := τ)).loc main_arg2))
    (m ((c.tc (τ := τ)).loc main_arg3)) (m ((c.tc (τ := τ)).loc main_arg4)) (m ((c.tc (τ := τ)).loc main_arg5))
    (m ((c.tc (τ := τ)).loc main_arg6)) (m ((c.tc (τ := τ)).loc main_arg7)) (m ((c.tc (τ := τ)).loc main_arg8))
    (m ((c.tc (τ := τ)).loc main_arg9)) (m ((c.tc (τ := τ)).loc main_arg10)) (m ((c.tc (τ := τ)).loc main_arg11))
    (m ((c.tc (τ := τ)).loc main_arg12)) (m ((c.tc (τ := τ)).loc main_arg13)) (m ((c.tc (τ := τ)).loc main_arg14))
    (m ((c.tc (τ := τ)).loc main_arg15)) (m ((c.tc (τ := τ)).loc main_arg16)) (m ((c.tc (τ := τ)).loc main_arg17))
    (m ((c.tc (τ := τ)).loc main_arg18)) (m ((c.tc (τ := τ)).loc main_arg19)))
  (t : Fin cfg0.N)
include h

/-- The first layer on a tile. -/
theorem tile_h1 (o : Fin 16) (n : Fin 49152) :
    layer0 (F := Ideal) (iblk m c 0 t) (iblk m c 1 t) (iblk m c 2 t) (iblk m c 3 t) (iblk m c 4 t) (iblk m c 5 t) (iblk m c 6 t) (iblk m c 7 t) (ix2 o n)
      = ((N.h1 (49152 * t.val + n.val) o : ℝ) : EReal) := by
  have ht : t.val < 3 := t.isLt
  refine (layer0_apply _ _ _ _ _ _ _ _ o n).trans (lane_net N.h0 N.root0 N.msg0 N.gate0 N.b0 t.val o n _ _ _ _ _ (fun k => (op4 m c t o k).trans (h.root0 k o))
    (fun k => (op5 m c t o k).trans (h.msg0 k o)) (fun s => (gate0_apply _ _ o s).trans ?_) ((op7 m c t o).trans (h.b0 o)) fun k n => (features_apply _ _ _ k n).trans ?_)
  · exact (gate_comm _ _ _ _ (fun k => op6 m c t o k) (fun k => op1 m c t k s)).trans (h.gate0 s o)
  · have hn : 49152 * t.val + n.val < 147456 := by omega
    show _ = ((N.x (49152 * t.val + n.val) * N.wf k + N.bf k : ℝ) : EReal)
    rw [EReal.coe_add, EReal.coe_mul, mul_comm (N.x _ : EReal)]
    exact Ideal.add_congr (Ideal.mul_congr ((op2 m c t k).trans (h.wf k)) ((op0 m c t n hn).trans (h.x ⟨_, hn⟩))) ((op3 m c t k).trans (h.bf k))

/-- The second layer on a tile. -/
theorem tile_h2 (o : Fin 16) (n : Fin 49152) :
    hidden (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 o n)
      = ((N.h2 (49152 * t.val + n.val) o : ℝ) : EReal) := by
  refine (layer1_apply _ _ _ _ _ _ o n).trans (lane_net N.h1 N.root1 N.msg1 N.gate1 N.b1 t.val o n _ _ _ _ _ (fun k => (op8 m c t o k).trans (h.root1 k o))
    (fun k => (op9 m c t o k).trans (h.msg1 k o)) (fun s => (gate1_apply _ _ o s).trans ?_) ((op11 m c t o).trans (h.b1 o)) fun k n => tile_h1 m c h t k n)
  exact (gate_comm _ _ _ _ (fun k => op10 m c t o k) (fun k => op1 m c t k s)).trans (h.gate1 s o)

/-- The third layer on a tile. -/
theorem tile_h3 (o : Fin 32) (n : Fin 49152) :
    layer2 (F := Ideal) (hidden (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t)) (iblk m c 1 t) (iblk m c 12 t) (iblk m c 13 t) (iblk m c 14 t) (iblk m c 15 t) (ix2 o n)
      = ((N.h3 (49152 * t.val + n.val) o : ℝ) : EReal) := by
  refine (layer2_apply _ _ _ _ _ _ o n).trans (lane_net N.h2 N.root2 N.msg2 N.gate2 N.b2 t.val o n _ _ _ _ _ (fun k => (op12 m c t o k).trans (h.root2 k o))
    (fun k => (op13 m c t o k).trans (h.msg2 k o)) (fun s => ?_) ((op15 m c t o).trans (h.b2 o)) fun k n => tile_h2 m c h t k n)
  exact (gate_comm _ _ _ _ (fun k => op14 m c t o k) (fun k => op1 m c t k s)).trans (h.gate2 s o)

/-- The tokens the kernel attends over. -/
theorem tokens_real (p : Fin 576) (k : Fin 32) : tokens m c (ix2 p k) = ((N.tok p.val k : ℝ) : EReal) :=
  (pool_apply _ _ (fun c l => firstRow_apply _ _ _ _ _ _ c l) ⟨p.val % 192, Nat.mod_lt _ (by norm_num)⟩ k).trans
    (band_tok N _ ⟨p.val % 192 / 24, by omega⟩ ⟨p.val % 192 % 24, by omega⟩ p.val k fun q => (tile_h3 m c h (tileOf (ix2 p k)) k _).trans
      (congrArg (fun z : ℕ => ((N.h3 z k : ℝ) : EReal)) (spot_node p.val q)))

end

end Cert.KernelIdeal.Tile

end
-- ==== Proof.Attention.lean ====
/- The attention over the reals: its heads as the kernel takes them, and as the reference does. -/
module

public import proofs.«01_k».proof.Proof.Tokens
public import proofs.«01_k».proof.Proof.KernelLane

@[expose] public section

noncomputable section

namespace Cert.Proof.Grid

open Idealize.ShloMosaic
open Cert.KernelIdeal.Tile (coe_sum coe_max)

/-- The scores of a head. -/
def score (q k : Fin 576 → Fin 64 → ℝ) (i j : Fin 576) : ℝ := (∑ d, q i d * k j d) / 8
/-- A row's largest score. -/
def top (s : Fin 576 → Fin 576 → ℝ) (i : Fin 576) : ℝ := Finset.univ.sup' Finset.univ_nonempty (s i)
/-- The exponentials of the scores, each row's largest taken off. -/
def ex (s : Fin 576 → Fin 576 → ℝ) (i j : Fin 576) : ℝ := Real.exp (s i j - top s i)
/-- A row's sum. -/
def den (e : Fin 576 → Fin 576 → ℝ) (i : Fin 576) : ℝ := ∑ j, e i j

theorem den_pos (s : Fin 576 → Fin 576 → ℝ) (i : Fin 576) : 0 < den (ex s) i :=
  Finset.sum_pos (fun _ _ => Real.exp_pos _) Finset.univ_nonempty

/-- A head's output in a channel, averaged over the rows before it meets the values. -/
def mixed (e : Fin 576 → Fin 576 → ℝ) (v : Fin 576 → Fin 64 → ℝ) (w : Fin 64 → ℝ) : ℝ :=
  ∑ d, (∑ j, (∑ i, (1 / 576) / den e i * e i j) * v j d) * w d

/-- The same with the average taken last. -/
theorem mixed_eq (e : Fin 576 → Fin 576 → ℝ) (v : Fin 576 → Fin 64 → ℝ) (w : Fin 64 → ℝ) :
    mixed e v w = (∑ i, ∑ d, (∑ j, e i j / den e i * v j d) * w d) / 576 := by
  unfold mixed
  rw [Finset.sum_div, Finset.sum_congr rfl fun i _ => Finset.sum_div Finset.univ _ (576 : ℝ), Finset.sum_comm (s := Finset.univ (α := Fin 576)) (t := Finset.univ (α := Fin 64))]
  refine Finset.sum_congr rfl fun d _ => ?_
  rw [← Finset.sum_div, ← Finset.sum_mul, Finset.sum_comm (s := Finset.univ (α := Fin 576)) (t := Finset.univ (α := Fin 576)), mul_div_right_comm, Finset.sum_div]
  refine congrArg (· * w d) (Finset.sum_congr rfl fun j _ => ?_)
  rw [Finset.sum_mul, Finset.sum_div]
  refine Finset.sum_congr rfl fun i _ => ?_
  ring

/-- The largest of finitely many reals, among the extended reals. -/
theorem sup_coe {ι : Type} [Fintype ι] [Nonempty ι] (f : ι → ℝ) :
    (Finset.univ.sup fun i => ((f i : ℝ) : EReal)) = ((Finset.univ.sup' Finset.univ_nonempty f : ℝ) : EReal) := by
  apply le_antisymm
  · exact Finset.sup_le fun i hi => EReal.coe_le_coe_iff.2 (Finset.le_sup' f hi)
  · obtain ⟨i, hi, h⟩ := Finset.exists_mem_eq_sup' Finset.univ_nonempty f
    rw [h]
    exact Finset.le_sup (f := fun i => ((f i : ℝ) : EReal)) hi

/-- A fold of maxima of reals from minus infinity. -/
theorem fold_coe (s : Fin 576 → ℝ) (f : Fin 576 → EReal) (hf : ∀ j, f j = ((s j : ℝ) : EReal)) :
    Finset.univ.fold max (Ideal.ofBits FTy.f32 0xFF800000#32) f = ((Finset.univ.sup' Finset.univ_nonempty s : ℝ) : EReal) := by
  have hb : Ideal.ofBits FTy.f32 0xFF800000#32 = (⊥ : EReal) := by simp [Ideal.ofBits, Ideal.ieee]
  rw [hb, ← sup_coe]
  obtain rfl : f = fun j => ((s j : ℝ) : EReal) := funext hf
  rfl

/-- The exponential of a real. -/
theorem exp_coe (r : ℝ) : Ideal.exp (r : EReal) = ((Real.exp r : ℝ) : EReal) := rfl

/-- The projections of the tokens. -/
def Net.proj (N : Net) (i : Fin 576) (j : Fin 1536) : ℝ := ∑ k, N.tok i.val k * N.wqkv k j
/-- Sixty-four columns of the projections. -/
def Net.part (N : Net) (o : ℕ) (ho : o + 64 ≤ 1536) (i : Fin 576) (d : Fin 64) : ℝ := N.proj i ⟨o + d.val, by omega⟩
/-- A head's exponentials. -/
def Net.exps (N : Net) (b : Fin 8) : Fin 576 → Fin 576 → ℝ :=
  ex (score (N.part (64 * b.val) (by omega)) (N.part (512 + 64 * b.val) (by omega)))
/-- A head's output in a channel. -/
def Net.head (N : Net) (b : Fin 8) (c : Fin 32) : ℝ :=
  mixed (N.exps b) (N.part (1024 + 64 * b.val) (by omega)) fun d => N.wout ⟨64 * b.val + d.val, by omega⟩ c
/-- The network's result in a channel. -/
def Net.out (N : Net) (c : Fin 32) : ℝ := ∑ b, N.head b c

end Cert.Proof.Grid

end
-- ==== Proof.KernelHeads.lean ====
/- The kernel's attention as a sum of eight heads, each read at a channel. -/
module

public import proofs.«01_k».proof.Proof.KernelTerms
public import Idealize.ShloMosaic.Lib.Pointwise

@[expose] public section

noncomputable section

namespace Cert.KernelIdeal.Tile

open Idealize.ShloMosaic Cert.KernelIdeal Cert.KernelIdeal.Gen

section
variable {F : FTy → Type} [FloatOps F] [Named F]

/-- The scaled scores of a head. -/
def scores (q k : FVec F S576x64 .f32) : FVec F S576x576 .f32 :=
  matmul dot_S576x64_S576x64_S576x576_1_1_0_0_n_n none (mulf q (broadcast S576x64 (Scalar.ofBits .f32 0x3E000000#32))) k
    (constant S576x576 .f32 0x00000000#32)

/-- The exponentials of the scores, each row's largest taken off. -/
def expo (s : FVec F S576x576 .f32) : FVec F S576x576 .f32 :=
  exp (subf s (broadcastTo S576x576 (shapeCast S576x1 (multiReduction .maximumf [1] S576 s 0xFF800000#32 reduces_S576x576_S576 (.inl rfl) rfl)
    shapeCasts_S576_S576x1) broadcasts_S576x1_S576x576))

/-- The output of a head, from its exponentials, averaged over the rows. -/
def mix (e : FVec F S576x576 .f32) (v : FVec F S576x64 .f32) (w : FVec F S64x32 .f32) : FVec F S1x32 .f32 :=
  matmul dot_S1x64_S64x32_S1x32_1_0_0_1_n_n none
    (matmul dot_S1x576_S576x64_S1x64_1_0_0_1_n_n none
      (matmul dot_S1x576_S576x576_S1x576_1_0_0_1_n_n none
        (transpose S1x576 [1, 0] (divf (broadcast S576x1 (Named.named κ "inv_n" 0x3AE38E39#32))
          (matmul dot_S576x576_S576x1_S576x1_1_0_0_1_n_n none e (k0_pay4 (F := F)) (constant S576x1 .f32 0x00000000#32))) transposes_S576x1_p1_0_S1x576)
        e (constant S1x576 .f32 0x00000000#32))
      v (constant S1x64 .f32 0x00000000#32))
    w (constant S1x32 .f32 0x00000000#32)

/-- A head. -/
def head (q k v : FVec F S576x64 .f32) (w : FVec F S64x32 .f32) : FVec F S1x32 .f32 := mix (expo (scores q k)) v w

/-- Sixty-four columns of the projections. -/
def cols (X : FVec F S576x1536 .f32) (o : ℕ) (h : S576x1536.Slices ![0, o] S576x64) : FVec F S576x64 .f32 :=
  extractStridedSlice S576x64 ![0, o] X h

theorem acc3_eq (tok : FVec F S576x32 .f32) (x16 : FVec F S32x1536 .f32) (x17 : FVec F S512x32 .f32) :
    acc3 tok x16 x17 = addf (addf (addf (broadcast S1x32 (Scalar.ofBits .f32 0x00000000#32))
      (head (cols (k0_pay3 tok x16) 0 slices_S576x1536_o0_0_S576x64) (cols (k0_pay3 tok x16) 512 slices_S576x1536_o0_512_S576x64)
        (cols (k0_pay3 tok x16) 1024 slices_S576x1536_o0_1024_S576x64) (rows x17 0 (by norm_num))))
      (head (cols (k0_pay3 tok x16) 64 slices_S576x1536_o0_64_S576x64) (cols (k0_pay3 tok x16) 576 slices_S576x1536_o0_576_S576x64)
        (cols (k0_pay3 tok x16) 1088 slices_S576x1536_o0_1088_S576x64) (rows x17 64 (by norm_num))))
      (head (cols (k0_pay3 tok x16) 128 slices_S576x1536_o0_128_S576x64) (cols (k0_pay3 tok x16) 640 slices_S576x1536_o0_640_S576x64)
        (cols (k0_pay3 tok x16) 1152 slices_S576x1536_o0_1152_S576x64) (rows x17 128 (by norm_num))) := rfl

theorem acc5_eq (tok : FVec F S576x32 .f32) (x16 : FVec F S32x1536 .f32) (x17 : FVec F S512x32 .f32) :
    acc5 tok x16 x17 = addf (addf (acc3 tok x16 x17)
      (head (cols (k0_pay3 tok x16) 192 slices_S576x1536_o0_192_S576x64) (cols (k0_pay3 tok x16) 704 slices_S576x1536_o0_704_S576x64)
        (cols (k0_pay3 tok x16) 1216 slices_S576x1536_o0_1216_S576x64) (rows x17 192 (by norm_num))))
      (head (cols (k0_pay3 tok x16) 256 slices_S576x1536_o0_256_S576x64) (cols (k0_pay3 tok x16) 768 slices_S576x1536_o0_768_S576x64)
        (cols (k0_pay3 tok x16) 1280 slices_S576x1536_o0_1280_S576x64) (rows x17 256 (by norm_num))) := rfl

theorem acc7_eq (tok : FVec F S576x32 .f32) (x16 : FVec F S32x1536 .f32) (x17 : FVec F S512x32 .f32) :
    acc7 tok x16 x17 = addf (addf (acc5 tok x16 x17)
      (head (cols (k0_pay3 tok x16) 320 slices_S576x1536_o0_320_S576x64) (cols (k0_pay3 tok x16) 832 slices_S576x1536_o0_832_S576x64)
        (cols (k0_pay3 tok x16) 1344 slices_S576x1536_o0_1344_S576x64) (rows x17 320 (by norm_num))))
      (head (cols (k0_pay3 tok x16) 384 slices_S576x1536_o0_384_S576x64) (cols (k0_pay3 tok x16) 896 slices_S576x1536_o0_896_S576x64)
        (cols (k0_pay3 tok x16) 1408 slices_S576x1536_o0_1408_S576x64) (rows x17 384 (by norm_num))) := rfl

theorem attention_eq (tok : FVec F S576x32 .f32) (x16 : FVec F S32x1536 .f32) (x17 : FVec F S512x32 .f32) :
    attention tok x16 x17 = addf (acc7 tok x16 x17)
      (head (cols (k0_pay3 tok x16) 448 slices_S576x1536_o0_448_S576x64) (cols (k0_pay3 tok x16) 960 slices_S576x1536_o0_960_S576x64)
        (cols (k0_pay3 tok x16) 1472 slices_S576x1536_o0_1472_S576x64) (rows x17 448 (by norm_num))) := rfl
end

set_option maxRecDepth 16384 in
theorem scores_apply (q k : FVec Ideal S576x64 .f32) (i j : Fin 576) :
    scores q k (ix2 i j) = ∑ d, q (ix2 i d) * Ideal.ofBits .f32 0x3E000000#32 * k (ix2 j d) := by
  unfold scores
  pointwise []
set_option maxRecDepth 16384 in
theorem expo_apply (s : FVec Ideal S576x576 .f32) (i j : Fin 576) :
    expo s (ix2 i j) = Ideal.exp (s (ix2 i j) - Finset.univ.fold max (Ideal.ofBits .f32 0xFF800000#32) (fun j : Fin 576 => s (ix2 i j))) := by
  unfold expo
  pointwise []
set_option maxRecDepth 16384 in
theorem mix_apply (e : FVec Ideal S576x576 .f32) (v : FVec Ideal S576x64 .f32) (w : FVec Ideal S64x32 .f32) (o : Fin 32) :
    mix e v w (ix2 0 o) = ∑ d, (∑ j, (∑ i, Ideal.div (Named.named (F := Ideal) κ "inv_n" (φ := .f32) 0x3AE38E39#32) (∑ j, e (ix2 i j)) * e (ix2 i j)) * v (ix2 j d)) * w (ix2 d o) := by
  unfold mix
  pointwise [k0_pay4]
theorem proj_apply (tok : FVec Ideal S576x32 .f32) (x16 : FVec Ideal S32x1536 .f32) (i : Fin 576) (j : Fin 1536) :
    k0_pay3 (F := Ideal) tok x16 (ix2 i j) = ∑ k, tok (ix2 i k) * x16 (ix2 k j) := by
  pointwise [k0_pay3]
theorem cols_apply (X : FVec Ideal S576x1536 .f32) (o : ℕ) (h : S576x1536.Slices ![0, o] S576x64) (i : Fin 576) (d : Fin 64) (ho : o + d.val < 1536) :
    cols X o h (ix2 i d) = X (ix2 i ⟨o + d.val, ho⟩) := by
  unfold cols
  pointwise []
theorem rows_apply (x17 : FVec Ideal S512x32 .f32) (o : ℕ) (h : o + 64 ≤ 512) (d : Fin 64) (c : Fin 32) :
    rows x17 o h (ix2 d c) = x17 (ix2 ⟨o + d.val, by omega⟩ c) := by
  unfold rows VecWindow.window
  refine congrArg x17 (funext fun a => Fin.ext ?_)
  match a with
  | ⟨0, _⟩ =>
    show o + 1 * d.val = o + d.val
    omega
  | ⟨1, _⟩ =>
    show 0 + 1 * c.val = c.val
    omega

end Cert.KernelIdeal.Tile

end
-- ==== Proof.KernelAttention.lean ====
/- The kernel's attention is the network's. -/
module

public import proofs.«01_k».proof.Proof.Attention
public import proofs.«01_k».proof.Proof.KernelHeads

@[expose] public section

noncomputable section

namespace Cert.KernelIdeal.Tile

open Idealize.ShloMosaic Cert.KernelIdeal Cert.KernelIdeal.Gen Cert.Proof.Grid

/-- The score scale. -/
theorem eighth : Ideal.ofBits FTy.f32 0x3E000000#32 = ((1 / 8 : ℝ) : EReal) := by
  simp [Ideal.ofBits, Ideal.ieee, -EReal.coe_mul]; norm_num

/-- The scores over real projections. -/
theorem scores_real (q k : Fin 576 → Fin 64 → ℝ) (Q K : FVec Ideal S576x64 .f32) (hQ : ∀ i d, Q (ix2 i d) = ((q i d : ℝ) : EReal))
    (hK : ∀ i d, K (ix2 i d) = ((k i d : ℝ) : EReal)) (i j : Fin 576) : scores Q K (ix2 i j) = ((score q k i j : ℝ) : EReal) := by
  refine (scores_apply Q K i j).trans ?_
  unfold score
  rw [Finset.sum_div, coe_sum]
  refine Finset.sum_congr rfl fun d _ => ?_
  rw [hQ, hK, eighth, ← EReal.coe_mul, ← EReal.coe_mul]
  refine congrArg _ ?_
  ring

/-- The exponentials over real scores. -/
theorem expo_real (s : Fin 576 → Fin 576 → ℝ) (S : FVec Ideal S576x576 .f32) (hS : ∀ i j, S (ix2 i j) = ((s i j : ℝ) : EReal)) (i j : Fin 576) :
    expo S (ix2 i j) = ((ex s i j : ℝ) : EReal) := by
  refine (expo_apply S i j).trans ?_
  rw [fold_coe (s i) _ (fun j => hS i j), hS, ← EReal.coe_sub]
  rfl

/-- A head's output over real exponentials whose rows' sums are positive. -/
theorem mix_real (e : Fin 576 → Fin 576 → ℝ) (v : Fin 576 → Fin 64 → ℝ) (w : Fin 64 → ℝ) (he : ∀ i, 0 < den e i) (E : FVec Ideal S576x576 .f32)
    (V : FVec Ideal S576x64 .f32) (W : FVec Ideal S64x32 .f32) (o : Fin 32) (hE : ∀ i j, E (ix2 i j) = ((e i j : ℝ) : EReal))
    (hV : ∀ i d, V (ix2 i d) = ((v i d : ℝ) : EReal)) (hW : ∀ d, W (ix2 d o) = ((w d : ℝ) : EReal)) :
    mix E V W (ix2 0 o) = ((mixed e v w : ℝ) : EReal) := by
  refine (mix_apply E V W o).trans ?_
  unfold mixed
  rw [coe_sum]
  refine Finset.sum_congr rfl fun d _ => ?_
  rw [hW, EReal.coe_mul, coe_sum]
  refine congrArg (fun z : EReal => z * ((w d : ℝ) : EReal)) (Finset.sum_congr rfl fun j _ => ?_)
  rw [hV, EReal.coe_mul, coe_sum]
  refine congrArg (fun z : EReal => z * ((v j d : ℝ) : EReal)) (Finset.sum_congr rfl fun i _ => ?_)
  have hd : (∑ j, (E (ix2 i j) : EReal)) = ((den e i : ℝ) : EReal) := by
    unfold den
    rw [coe_sum]
    exact Finset.sum_congr rfl fun j _ => hE i j
  rw [hd, hE, Ideal.div_coe (he i).ne', IdealRules.named_const.ideal_named_scalar κ "inv_n" _ ((1 / 576 : ℝ) : EReal) rfl, ← EReal.coe_mul, ← EReal.coe_mul, mul_one_div]

section
variable {N : Net} (tok : FVec Ideal S576x32 .f32) (x16 : FVec Ideal S32x1536 .f32) (x17 : FVec Ideal S512x32 .f32)
  (ht : ∀ p k, tok (ix2 p k) = ((N.tok p.val k : ℝ) : EReal)) (h16 : ∀ k j, x16 (ix2 k j) = ((N.wqkv k j : ℝ) : EReal))
  (h17 : ∀ k j, x17 (ix2 k j) = ((N.wout k j : ℝ) : EReal))
include ht h16

/-- The projections. -/
theorem part_real (o : ℕ) (ho : o + 64 ≤ 1536) (hs : S576x1536.Slices ![0, o] S576x64) (i : Fin 576) (d : Fin 64) :
    cols (k0_pay3 (F := Ideal) tok x16) o hs (ix2 i d) = ((N.part o ho i d : ℝ) : EReal) := by
  rw [cols_apply _ o hs i d (by omega), proj_apply]
  unfold Net.part Net.proj
  rw [coe_sum]
  exact Finset.sum_congr rfl fun k _ => by rw [ht, h16, EReal.coe_mul]

include h17

/-- A head of the kernel's attention. -/
theorem head_real (b : Fin 8) (h1 : S576x1536.Slices ![0, 64 * b.val] S576x64) (h2 : S576x1536.Slices ![0, 512 + 64 * b.val] S576x64)
    (h3 : S576x1536.Slices ![0, 1024 + 64 * b.val] S576x64) (h4 : 64 * b.val + 64 ≤ 512) (o : Fin 32) :
    head (cols (k0_pay3 (F := Ideal) tok x16) (64 * b.val) h1) (cols (k0_pay3 (F := Ideal) tok x16) (512 + 64 * b.val) h2)
      (cols (k0_pay3 (F := Ideal) tok x16) (1024 + 64 * b.val) h3) (rows x17 (64 * b.val) h4) (ix2 0 o) = ((N.head b o : ℝ) : EReal) :=
  mix_real (N.exps b) _ _ (fun i => den_pos _ i) _ _ _ o
    (expo_real _ _ (scores_real _ _ _ _ (part_real tok x16 ht h16 _ (by omega) h1) (part_real tok x16 ht h16 _ (by omega) h2)))
    (part_real tok x16 ht h16 _ (by omega) h3) fun d => (rows_apply x17 _ h4 d o).trans (h17 _ o)

/-- The kernel's attention. -/
theorem attention_real (o : Fin 32) : attention tok x16 x17 (ix2 0 o) = ((N.out o : ℝ) : EReal) := by
  rw [attention_eq, acc7_eq, acc5_eq, acc3_eq]
  unfold Net.out
  rw [Fin.sum_univ_eight, EReal.coe_add, EReal.coe_add, EReal.coe_add, EReal.coe_add, EReal.coe_add, EReal.coe_add, EReal.coe_add]
  refine Ideal.add_congr (Ideal.add_congr (Ideal.add_congr (Ideal.add_congr (Ideal.add_congr (Ideal.add_congr (Ideal.add_congr ?_ ?_) ?_) ?_) ?_) ?_) ?_) ?_
  · refine Eq.trans (b := (0 : EReal) + ((N.head 0 o : ℝ) : EReal)) (Ideal.add_congr Ideal.ofBits_zero_f32 ?_) (zero_add _)
    exact head_real tok x16 x17 ht h16 h17 0 _ _ _ _ o
  · exact head_real tok x16 x17 ht h16 h17 1 _ _ _ _ o
  · exact head_real tok x16 x17 ht h16 h17 2 _ _ _ _ o
  · exact head_real tok x16 x17 ht h16 h17 3 _ _ _ _ o
  · exact head_real tok x16 x17 ht h16 h17 4 _ _ _ _ o
  · exact head_real tok x16 x17 ht h16 h17 5 _ _ _ _ o
  · exact head_real tok x16 x17 ht h16 h17 6 _ _ _ _ o
  · exact head_real tok x16 x17 ht h16 h17 7 _ _ _ _ o

end

end Cert.KernelIdeal.Tile

end
-- ==== Proof.RefMean.lean ====
/- The reference's mean over the edges entering a node, over real features: the sum over the node's four sides, divided by how
   many there are. -/
module

public import proofs.«01_k».proof.Proof.Grid
public import proofs.«01_k».proof.Proof.KernelLane

@[expose] public section

noncomputable section

namespace Cert.ReferenceIdeal.Rows

open Idealize.ShloMosaic Cert.Proof.Grid
open Cert.KernelIdeal.Tile (coe_sum coe_max)

/-- The number of edges entering a node, counted edge by edge. -/
theorem count_real (d : Fin 552960 → ℤ) (hd : ∀ s e, d (at_ s e) = (dst s e.val : ℤ)) (n : ℕ) (hn : n < 147456) :
    (∑ e, if d e = (n : ℤ) then (1 : EReal) else 0) = ((deg n : ℝ) : EReal) := by
  rw [sum_edges d hd (fun _ => 1) n hn]
  unfold deg
  rw [coe_sum]
  refine Finset.sum_congr rfl fun s _ => ?_
  by_cases h : has s n
  · rw [dif_pos h, if_pos h]; rfl
  · rw [dif_neg h, if_neg h]; rfl

/-- The mean of the gated messages sent to a node. -/
theorem mean_real {K : ℕ} (hr : ℕ → Fin K → ℝ) (ms : Fin K → ℝ) (g : Fin 4 → ℝ) (d : Fin 552960 → ℤ)
    (hd : ∀ s e, d (at_ s e) = (dst s e.val : ℤ)) (U : Fin 552960 → EReal)
    (hU : ∀ s e, U (at_ s e) = (((∑ k, hr (src s e.val) k * ms k) * g s : ℝ) : EReal)) (n : ℕ) (hn : n < 147456) :
    Ideal.div (∑ e, if d e = (n : ℤ) then U e else 0) (max (∑ e, if d e = (n : ℤ) then (1 : EReal) else 0) 1)
      = (((∑ s : Fin 4, if has s n then (∑ k, hr (nbr s n) k * ms k) * g s else 0) / deg n : ℝ) : EReal) := by
  rw [count_real d hd n hn, show (1 : EReal) = ((1 : ℝ) : EReal) from rfl, ← coe_max, max_eq_left (one_le_deg n),
    Ideal.div_coe (deg_pos n).ne', sum_edges d hd U n hn, ← mul_one_div (∑ s : Fin 4, if has s n then (∑ k, hr (nbr s n) k * ms k) * g s else 0), EReal.coe_mul]
  refine congrArg (fun z : EReal => z * ((1 / deg n : ℝ) : EReal)) ?_
  rw [coe_sum]
  refine Finset.sum_congr rfl fun s _ => ?_
  by_cases h : has s n
  · rw [dif_pos h, if_pos h, hU, src_edge s n hn h]
  · rw [dif_neg h, if_neg h]; rfl

end Cert.ReferenceIdeal.Rows

end
-- ==== Proof.RefRows.lean ====
/- The reference's gathers and scatter-adds, read at an index: rows fetched by an index column, rows added by one. -/
module

public import proofs.«01_k».proof.Proof.Gen.ReferenceIdeal.Read
public import Idealize.ShloMosaic.Lib.Pointwise
public import Idealize.ShloMosaic.Lib.Routing.OpsPair

@[expose] public section

noncomputable section
namespace Cert.ReferenceIdeal.Rows
open Idealize.ShloMosaic Cert.ReferenceIdeal

/-- Element `(n, o)` of a row scatter-add: the operand and the rows sent to `n`. -/
theorem scatter_rows {N C E : ℕ} (d : ScatterDims (⟨2, ![N, C]⟩ : Shape) ⟨2, ![E, 1]⟩ ⟨2, ![E, C]⟩)
    (h : ∀ (e : Fin E) (c : Fin C) (idx : IVec ⟨2, ![E, 1]⟩ 32), d.start (ix2 e c) idx 0 = (idx (ix2 e 0)).toInt ∧ d.start (ix2 e c) idx 1 = 0
      ∧ d.window (ix2 e c) 0 = 0 ∧ d.window (ix2 e c) 1 = c.val)
    (x : FVec Ideal ⟨2, ![N, C]⟩ .f32) (idx : IVec ⟨2, ![E, 1]⟩ 32) (u : FVec Ideal ⟨2, ![E, C]⟩ .f32) (n : Fin N) (o : Fin C) :
    Host.scatterAdd d x idx u (ix2 n o) = (x (ix2 n o) : EReal) + ∑ e : Fin E, if (idx (ix2 e 0)).toInt = n.val then (u (ix2 e o) : EReal) else 0 := by
  have land : ∀ (e : Fin E) (c : Fin C), d.resultIdx? (ix2 e c) idx = some (ix2 n o) ↔ (idx (ix2 e 0)).toInt = n.val ∧ c = o := by
    intro e c
    obtain ⟨h0, h1, h2, h3⟩ := h e c idx
    rw [Routing.resultIdx?_eq_some]
    constructor
    · intro q
      have q0 := q 0
      have q1 := q 1
      rw [h0, h2] at q0
      rw [h1, h3] at q1
      refine ⟨by simpa using q0, Fin.ext ?_⟩
      have : ((0:ℤ) + (c.val : ℤ)) = (o.val : ℤ) := q1
      omega
    · rintro ⟨q0, rfl⟩ a
      match a with
      | ⟨0, _⟩ =>
        show d.start (ix2 e c) idx 0 + (d.window (ix2 e c) 0 : ℤ) = n.val
        rw [h0, h2, q0]; simp
      | ⟨1, _⟩ =>
        show d.start (ix2 e c) idx 1 + (d.window (ix2 e c) 1 : ℤ) = c.val
        rw [h1, h3]; simp
  show (x (ix2 n o) : EReal) + ∑ j ∈ Finset.univ.filter (fun j => d.resultIdx? j idx = some (ix2 n o)), (u j : EReal) = _
  refine congrArg _ ?_
  rw [Finset.sum_filter, sum_idx2]
  refine Finset.sum_congr rfl fun e _ => ?_
  rw [Finset.sum_eq_single o]
  · simp only [land, and_true]
  · intro c _ hc
    rw [if_neg]
    rw [land]
    exact fun q => hc q.2
  · exact fun q => absurd (Finset.mem_univ _) q

/-- Element `(e, c)` of a row gather whose index is in range. -/
theorem gather_rows {α : Type} {N C E : ℕ} (d : GatherDims (⟨2, ![N, C]⟩ : Shape) ⟨2, ![E, 1]⟩ ⟨2, ![E, C]⟩)
    (x : (⟨2, ![N, C]⟩ : Shape).Idx → α) (idx : IVec ⟨2, ![E, 1]⟩ 32) (e : Fin E) (c : Fin C)
    (h0 : (d.operandIdx (ix2 e c) idx 0).val = min (idx (ix2 e 0)).toInt.toNat (N - 1)) (h1 : (d.operandIdx (ix2 e c) idx 1).val = c.val)
    (m : Fin N) (hm : (idx (ix2 e 0)).toInt = m.val) :
    Host.gather d x idx (ix2 e c) = x (ix2 m c) := by
  have hl := m.isLt
  refine congrArg x (funext fun a => ?_)
  match a with
  | ⟨0, _⟩ => exact Fin.ext (by
      show (d.operandIdx (ix2 e c) idx 0).val = m.val
      rw [h0, hm, Int.toNat_natCast]; omega)
  | ⟨1, _⟩ => exact Fin.ext h1

section
variable [Facts]

/-- The index column read by each of the printed scatters and gathers. -/
theorem scatter16_ok (e : Fin 552960) (c : Fin 16) (idx : IVec S552960x1 32) :
    scatter_S147456x16_S552960x1_S552960x16_1_0_0_1.start (ix2 e c) idx 0 = (idx (ix2 e 0)).toInt
      ∧ scatter_S147456x16_S552960x1_S552960x16_1_0_0_1.start (ix2 e c) idx 1 = 0
      ∧ scatter_S147456x16_S552960x1_S552960x16_1_0_0_1.window (ix2 e c) 0 = 0
      ∧ scatter_S147456x16_S552960x1_S552960x16_1_0_0_1.window (ix2 e c) 1 = c.val :=
  ⟨congrArg (fun i => (idx i).toInt) (funext fun b => match b with | ⟨0, _⟩ => rfl | ⟨1, _⟩ => rfl), rfl, rfl, rfl⟩
theorem scatter32_ok (e : Fin 552960) (c : Fin 32) (idx : IVec S552960x1 32) :
    scatter_S147456x32_S552960x1_S552960x32_1_0_0_1.start (ix2 e c) idx 0 = (idx (ix2 e 0)).toInt
      ∧ scatter_S147456x32_S552960x1_S552960x32_1_0_0_1.start (ix2 e c) idx 1 = 0
      ∧ scatter_S147456x32_S552960x1_S552960x32_1_0_0_1.window (ix2 e c) 0 = 0
      ∧ scatter_S147456x32_S552960x1_S552960x32_1_0_0_1.window (ix2 e c) 1 = c.val :=
  ⟨congrArg (fun i => (idx i).toInt) (funext fun b => match b with | ⟨0, _⟩ => rfl | ⟨1, _⟩ => rfl), rfl, rfl, rfl⟩
theorem scatter1_ok (e : Fin 552960) (c : Fin 1) (idx : IVec S552960x1 32) :
    scatter_S147456x1_S552960x1_S552960x1_1_0_0_1.start (ix2 e c) idx 0 = (idx (ix2 e 0)).toInt
      ∧ scatter_S147456x1_S552960x1_S552960x1_1_0_0_1.start (ix2 e c) idx 1 = 0
      ∧ scatter_S147456x1_S552960x1_S552960x1_1_0_0_1.window (ix2 e c) 0 = 0
      ∧ scatter_S147456x1_S552960x1_S552960x1_1_0_0_1.window (ix2 e c) 1 = c.val :=
  ⟨congrArg (fun i => (idx i).toInt) (funext fun b => match b with | ⟨0, _⟩ => rfl | ⟨1, _⟩ => rfl), rfl, rfl, rfl⟩

/-- The printed gathers. -/
theorem gather8 (x : S147456x8.Idx → EReal) (idx : IVec S552960x1 32) (e : Fin 552960) (c : Fin 8) (m : Fin 147456)
    (hm : (idx (ix2 e 0)).toInt = m.val) :
    Host.gather gather_S147456x8_S552960x1_S552960x8_1_0_n_n_0_1_18 x idx (ix2 e c) = x (ix2 m c) :=
  gather_rows gather_S147456x8_S552960x1_S552960x8_1_0_n_n_0_1_18 x idx e c
    (congrArg (fun i => min (idx i).toInt.toNat 147455) (a₁ := gather_S147456x8_S552960x1_S552960x8_1_0_n_n_0_1_18.siIdx (ix2 e c) ⟨0, Nat.one_pos⟩)
      (funext fun b => match b with | ⟨0, _⟩ => rfl | ⟨1, _⟩ => rfl))
    (Nat.zero_add _) m hm
theorem gather16 (x : S147456x16.Idx → EReal) (idx : IVec S552960x1 32) (e : Fin 552960) (c : Fin 16) (m : Fin 147456)
    (hm : (idx (ix2 e 0)).toInt = m.val) :
    Host.gather gather_S147456x16_S552960x1_S552960x16_1_0_n_n_0_1_116 x idx (ix2 e c) = x (ix2 m c) :=
  gather_rows gather_S147456x16_S552960x1_S552960x16_1_0_n_n_0_1_116 x idx e c
    (congrArg (fun i => min (idx i).toInt.toNat 147455) (a₁ := gather_S147456x16_S552960x1_S552960x16_1_0_n_n_0_1_116.siIdx (ix2 e c) ⟨0, Nat.one_pos⟩)
      (funext fun b => match b with | ⟨0, _⟩ => rfl | ⟨1, _⟩ => rfl))
    (Nat.zero_add _) m hm
end

end Cert.ReferenceIdeal.Rows

end
-- ==== Proof.RefLayer0.lean ====
/- The reference's first layer over the reals. -/
module

public import proofs.«01_k».proof.Proof.Net
public import proofs.«01_k».proof.Proof.RefMean
public import proofs.«01_k».proof.Proof.RefRows

@[expose] public section

noncomputable section

namespace Cert.ReferenceIdeal.Rows

open Idealize.ShloMosaic Cert.ReferenceIdeal Cert.ReferenceIdeal.Read Cert.Proof.Grid
open Cert.KernelIdeal.Tile (coe_sum coe_max)

/-- A layer at a node, over the reals. -/
theorem conv_real {K C : ℕ} (hr : ℕ → Fin K → ℝ) (root msg : Fin K → Fin C → ℝ) (g : Fin 4 → Fin C → ℝ) (b : Fin C → ℝ) (d : Fin 552960 → ℤ)
    (hd : ∀ s e, d (at_ s e) = (dst s e.val : ℤ)) (o : Fin C) (U : Fin 552960 → EReal)
    (hU : ∀ s e, U (at_ s e) = (((∑ k, hr (src s e.val) k * msg k o) * g s o : ℝ) : EReal)) (n : ℕ) (hn : n < 147456)
    (H R : Fin K → EReal) (hH : ∀ k, H k = ((hr n k : ℝ) : EReal)) (hR : ∀ k, R k = ((root k o : ℝ) : EReal))
    (B : EReal) (hB : B = ((b o : ℝ) : EReal)) :
    max (((∑ k, H k * R k) + Ideal.div (∑ e, if d e = (n : ℤ) then U e else 0) (max (∑ e, if d e = (n : ℤ) then (1 : EReal) else 0) 1)) + B) 0
      = ((conv hr root msg g b n o : ℝ) : EReal) := by
  rw [mean_real hr (fun k => msg k o) (fun s => g s o) d hd U hU n hn, hB]
  unfold conv
  rw [coe_max, EReal.coe_add, EReal.coe_add, coe_sum]
  simp only [hH, hR, EReal.coe_mul, EReal.coe_zero]

/-- An index that is not negative is not wrapped. -/
theorem unwrapped (w : BitVec 32) (m : ℕ) (h : w.toInt = (m : ℤ)) :
    Scalar.select (IntOp.cmpi .slt w 0#32) (IntOp.addi w 147456#32) w = w := by
  have : ¬ (w.slt 0#32 = true) := by
    rw [BitVec.slt_iff_toInt_lt, h]; simp
  have e : IntOp.cmpi .slt w 0#32 = 0#1 := by
    show BitVec.ofBool (w.slt 0#32) = 0#1
    rw [Bool.not_eq_true] at this
    rw [this]; rfl
  rw [e]; rfl

/-- Where each edge's message leaves and enters: a segment's source node is one of the nodes. -/
theorem src_fin (s : Fin 4) (e : Fin 138240) : src s e.val < 147456 := src_lt s e.val e.isLt

/-- The node features at the start. -/
theorem features_apply (x0 : FVec Ideal S147456x1 .f32) (x4 : FVec Ideal S1x8 .f32) (x5 : FVec Ideal S8 .f32)
    (n : Fin 147456) (c : Fin 8) :
    val_main_v3 (F := Ideal) x0 x4 x5 (ix2 n c) = (∑ k, x0 (ix2 n k) * x4 (ix2 k c)) + x5 (ix1 c) := by
  pointwise [val_main_v3, val_main_v2, val_main_v1, val_main_v0]

section
variable [Facts]

set_option maxRecDepth 16384 in
/-- The layer at a node: root term, mean of the messages, bias. -/
theorem out0_apply (x0 : FVec Ideal S147456x1 .f32) (x1 : IVec S2x552960 32) (x2 : FVec Ideal S552960x2 .f32) (x4 : FVec Ideal S1x8 .f32) (x5 : FVec Ideal S8 .f32) (x6 : FVec Ideal S8x16 .f32) (x7 : FVec Ideal S8x16 .f32) (x8 : FVec Ideal S2x16 .f32) (x9 : FVec Ideal S16 .f32)
    (n : Fin 147456) (o : Fin 16) :
    val_main_v40 (F := Ideal) x0 x1 x2 x4 x5 x6 x7 x8 x9 (ix2 n o)
      = max (((∑ k, val_main_v3 (F := Ideal) x0 x4 x5 (ix2 n k) * x6 (ix2 k o))
          + Ideal.div (val_main_v26 (F := Ideal) x0 x1 x2 x4 x5 x7 x8 (ix2 n o)) (max (val_main_v30 (F := Ideal) x1 (ix2 n 0)) 1)) + x9 (ix1 o)) 0 := by
  pointwise [val_main_v40, val_main_v39, val_main_v38, val_main_v37, val_main_v36, val_main_v35, val_main_v34, val_main_v33, val_main_v32, val_main_v31, val_main_call0_v0, val_main_call0_cst, val_main_cst_5]

set_option maxRecDepth 16384 in
/-- The message of an edge. -/
theorem update0_apply (x0 : FVec Ideal S147456x1 .f32) (x1 : IVec S2x552960 32) (x2 : FVec Ideal S552960x2 .f32) (x4 : FVec Ideal S1x8 .f32) (x5 : FVec Ideal S8 .f32) (x7 : FVec Ideal S8x16 .f32) (x8 : FVec Ideal S2x16 .f32)
    (e : Fin 552960) (o : Fin 16) :
    val_main_v23 (F := Ideal) x0 x1 x2 x4 x5 x7 x8 (ix2 e o)
      = (∑ k, val_main_v14 (F := Ideal) x0 x1 x4 x5 (ix2 e k) * x7 (ix2 k o))
          * Ideal.logistic (∑ k, x2 (ix2 e k) * x8 (ix2 k o)) := by
  pointwise [val_main_v23, val_main_v22, val_main_v21, val_main_v20, val_main_v19, val_main_v18, val_main_v17, val_main_v16, val_main_v15, val_main_cst, val_main_cst_1, Ideal.logistic]

/-- The node an edge enters, in the sum and in the count. -/
theorem enters0_apply (x1 : IVec S2x552960 32) (e : Fin 552960) :
    val_main_v25 (F := Ideal) x1 (ix2 e 0) = x1 (ix2 1 e) ∧ val_main_v29 (F := Ideal) x1 (ix2 e 0) = x1 (ix2 1 e) := by
  constructor
  · pointwise [val_main_v25, val_main_v7, val_main_v6]
  · pointwise [val_main_v29, val_main_v7, val_main_v6]

/-- The node an edge leaves. -/
theorem leaves0_apply (x1 : IVec S2x552960 32) (e : Fin 552960) (m : ℕ) (h : (x1 (ix2 0 e)).toInt = (m : ℤ)) :
    (val_main_v13 (F := Ideal) x1 (ix2 e 0)).toInt = (m : ℤ) := by
  have q : val_main_v13 (F := Ideal) x1 (ix2 e 0)
      = Scalar.select (IntOp.cmpi .slt (x1 (ix2 0 e)) 0#32) (IntOp.addi (x1 (ix2 0 e)) 147456#32) (x1 (ix2 0 e)) := by
    pointwise [val_main_v13, val_main_v12, val_main_v11, val_main_v10, val_main_v9, val_main_v8, val_main_v5, val_main_v4, val_main_c, val_main_c_0]
  rw [q, unwrapped _ m h, h]

/-- The sums start at nothing and the count adds ones. -/
theorem start0_apply (e : Fin 552960) (n : Fin 147456) (o : Fin 16) :
    val_main_v24 (F := Ideal) (ix2 n o) = (0 : EReal) ∧ val_main_v28 (F := Ideal) (ix2 n 0) = (0 : EReal) ∧ val_main_v27 (F := Ideal) (ix2 e 0) = (1 : EReal) := by
  refine ⟨?_, ?_, ?_⟩
  · pointwise [val_main_v24, val_main_cst_2]
  · pointwise [val_main_v28, val_main_cst_4]
  · pointwise [val_main_v27, val_main_cst_3]

/-- The first layer is the network's. -/
theorem layer0_real {N : Net} (x0 : FVec Ideal S147456x1 .f32) (x1 : IVec S2x552960 32) (x2 : FVec Ideal S552960x2 .f32) (x3 : IVec S147456 32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32) (x14 : FVec Ideal S16x32 .f32) (x15 : FVec Ideal S16x32 .f32) (x16 : FVec Ideal S2x32 .f32) (x17 : FVec Ideal S32 .f32) (x18 : FVec Ideal S32x1536 .f32) (x19 : FVec Ideal S512x32 .f32)
    (h : Meets N x0 x1 x2 x3 x4 x5 x6 x7 x8 x9 x10 x11 x12 x13 x14 x15 x16 x17 x18 x19) (n : Fin 147456) (o : Fin 16) :
    val_main_v40 (F := Ideal) x0 x1 x2 x4 x5 x6 x7 x8 x9 (ix2 n o) = ((N.h1 n.val o : ℝ) : EReal) := by
  have hp : ∀ (m : Fin 147456) (c : Fin 8), val_main_v3 (F := Ideal) x0 x4 x5 (ix2 m c) = ((N.h0 m.val c : ℝ) : EReal) := by
    intro m c
    rw [features_apply, Fin.sum_univ_one, h.x, h.wf, h.bf, ← EReal.coe_mul, ← EReal.coe_add]; rfl
  have hsum : val_main_v26 (F := Ideal) x0 x1 x2 x4 x5 x7 x8 (ix2 n o)
      = ∑ e, if (x1 (ix2 1 e)).toInt = ((n.val : ℕ) : ℤ) then (val_main_v23 (F := Ideal) x0 x1 x2 x4 x5 x7 x8 (ix2 e o) : EReal) else 0 := by
    unfold val_main_v26
    rw [scatter_rows _ (fun e c idx => scatter16_ok e c idx), (start0_apply 0 n o).1, zero_add]
    simp only [(enters0_apply x1 _).1]
  have hcnt : val_main_v30 (F := Ideal) x1 (ix2 n 0) = ∑ e, if (x1 (ix2 1 e)).toInt = ((n.val : ℕ) : ℤ) then (1 : EReal) else 0 := by
    unfold val_main_v30
    rw [scatter_rows _ (fun e c idx => scatter1_ok e c idx), (start0_apply 0 n o).2.1, zero_add]
    simp only [(enters0_apply x1 _).2, fun e => (start0_apply e n o).2.2]
  rw [out0_apply, hsum, hcnt]
  refine conv_real N.h0 N.root0 N.msg0 N.gate0 N.b0 (fun e => (x1 (ix2 1 e)).toInt) h.dst o _ (fun s e => ?_) n.val n.isLt _ _
    (fun c => hp n c) (fun c => h.root0 c o) _ (h.b0 o)
  rw [update0_apply, EReal.coe_mul, coe_sum]
  refine Ideal.mul_congr (Finset.sum_congr rfl fun c _ => ?_) ?_
  · rw [EReal.coe_mul, h.msg0]
    refine congrArg (fun z : EReal => z * ((N.msg0 c o : ℝ) : EReal)) ?_
    unfold val_main_v14
    rw [gather8 _ _ _ _ ⟨src s e.val, src_fin s e⟩ (leaves0_apply x1 _ _ (h.src s e)), hp]
  · rw [← h.gate0 s o]
    simp only [h.attr s e]

end

end Cert.ReferenceIdeal.Rows

end
-- ==== Proof.RefLayer1.lean ====
/- The reference's second layer over the reals. -/
module

public import proofs.«01_k».proof.Proof.Net
public import proofs.«01_k».proof.Proof.RefMean
public import proofs.«01_k».proof.Proof.RefRows
public import proofs.«01_k».proof.Proof.RefLayer0

@[expose] public section

noncomputable section

namespace Cert.ReferenceIdeal.Rows

open Idealize.ShloMosaic Cert.ReferenceIdeal Cert.ReferenceIdeal.Read Cert.Proof.Grid
open Cert.KernelIdeal.Tile (coe_sum coe_max)

section
variable [Facts]

set_option maxRecDepth 16384 in
/-- The layer at a node: root term, mean of the messages, bias. -/
theorem out1_apply (x0 : FVec Ideal S147456x1 .f32) (x1 : IVec S2x552960 32) (x2 : FVec Ideal S552960x2 .f32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32)
    (n : Fin 147456) (o : Fin 16) :
    val_main_v77 (F := Ideal) x0 x1 x2 x4 x5 x6 x7 x8 x9 x10 x11 x12 x13 (ix2 n o)
      = max (((∑ k, val_main_v40 (F := Ideal) x0 x1 x2 x4 x5 x6 x7 x8 x9 (ix2 n k) * x10 (ix2 k o))
          + Ideal.div (val_main_v63 (F := Ideal) x0 x1 x2 x4 x5 x6 x7 x8 x9 x11 x12 (ix2 n o)) (max (val_main_v67 (F := Ideal) x1 (ix2 n 0)) 1)) + x13 (ix1 o)) 0 := by
  pointwise [val_main_v77, val_main_v76, val_main_v75, val_main_v74, val_main_v73, val_main_v72, val_main_v71, val_main_v70, val_main_v69, val_main_v68, val_main_call1_v0, val_main_call1_cst, val_main_cst_13]

set_option maxRecDepth 16384 in
/-- The message of an edge. -/
theorem update1_apply (x0 : FVec Ideal S147456x1 .f32) (x1 : IVec S2x552960 32) (x2 : FVec Ideal S552960x2 .f32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x11 : FVec Ideal S16x16 .f32) (x12 : FVec Ideal S2x16 .f32)
    (e : Fin 552960) (o : Fin 16) :
    val_main_v60 (F := Ideal) x0 x1 x2 x4 x5 x6 x7 x8 x9 x11 x12 (ix2 e o)
      = (∑ k, val_main_v51 (F := Ideal) x0 x1 x2 x4 x5 x6 x7 x8 x9 (ix2 e k) * x11 (ix2 k o))
          * Ideal.logistic (∑ k, x2 (ix2 e k) * x12 (ix2 k o)) := by
  pointwise [val_main_v60, val_main_v59, val_main_v58, val_main_v57, val_main_v56, val_main_v55, val_main_v54, val_main_v53, val_main_v52, val_main_cst_8, val_main_cst_9, Ideal.logistic]

/-- The node an edge enters, in the sum and in the count. -/
theorem enters1_apply (x1 : IVec S2x552960 32) (e : Fin 552960) :
    val_main_v62 (F := Ideal) x1 (ix2 e 0) = x1 (ix2 1 e) ∧ val_main_v66 (F := Ideal) x1 (ix2 e 0) = x1 (ix2 1 e) := by
  constructor
  · pointwise [val_main_v62, val_main_v44, val_main_v43]
  · pointwise [val_main_v66, val_main_v44, val_main_v43]

/-- The node an edge leaves. -/
theorem leaves1_apply (x1 : IVec S2x552960 32) (e : Fin 552960) (m : ℕ) (h : (x1 (ix2 0 e)).toInt = (m : ℤ)) :
    (val_main_v50 (F := Ideal) x1 (ix2 e 0)).toInt = (m : ℤ) := by
  have q : val_main_v50 (F := Ideal) x1 (ix2 e 0)
      = Scalar.select (IntOp.cmpi .slt (x1 (ix2 0 e)) 0#32) (IntOp.addi (x1 (ix2 0 e)) 147456#32) (x1 (ix2 0 e)) := by
    pointwise [val_main_v50, val_main_v49, val_main_v48, val_main_v47, val_main_v46, val_main_v45, val_main_v42, val_main_v41, val_main_c_6, val_main_c_7]
  rw [q, unwrapped _ m h, h]

/-- The sums start at nothing and the count adds ones. -/
theorem start1_apply (e : Fin 552960) (n : Fin 147456) (o : Fin 16) :
    val_main_v61 (F := Ideal) (ix2 n o) = (0 : EReal) ∧ val_main_v65 (F := Ideal) (ix2 n 0) = (0 : EReal) ∧ val_main_v64 (F := Ideal) (ix2 e 0) = (1 : EReal) := by
  refine ⟨?_, ?_, ?_⟩
  · pointwise [val_main_v61, val_main_cst_10]
  · pointwise [val_main_v65, val_main_cst_12]
  · pointwise [val_main_v64, val_main_cst_11]

/-- The second layer is the network's. -/
theorem layer1_real {N : Net} (x0 : FVec Ideal S147456x1 .f32) (x1 : IVec S2x552960 32) (x2 : FVec Ideal S552960x2 .f32) (x3 : IVec S147456 32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32) (x14 : FVec Ideal S16x32 .f32) (x15 : FVec Ideal S16x32 .f32) (x16 : FVec Ideal S2x32 .f32) (x17 : FVec Ideal S32 .f32) (x18 : FVec Ideal S32x1536 .f32) (x19 : FVec Ideal S512x32 .f32)
    (h : Meets N x0 x1 x2 x3 x4 x5 x6 x7 x8 x9 x10 x11 x12 x13 x14 x15 x16 x17 x18 x19) (n : Fin 147456) (o : Fin 16) :
    val_main_v77 (F := Ideal) x0 x1 x2 x4 x5 x6 x7 x8 x9 x10 x11 x12 x13 (ix2 n o) = ((N.h2 n.val o : ℝ) : EReal) := by
  have hp : ∀ (m : Fin 147456) (c : Fin 16), val_main_v40 (F := Ideal) x0 x1 x2 x4 x5 x6 x7 x8 x9 (ix2 m c) = ((N.h1 m.val c : ℝ) : EReal) := by
    intro m c
    exact layer0_real (h := h) (n := m) (o := c)
  have hsum : val_main_v63 (F := Ideal) x0 x1 x2 x4 x5 x6 x7 x8 x9 x11 x12 (ix2 n o)
      = ∑ e, if (x1 (ix2 1 e)).toInt = ((n.val : ℕ) : ℤ) then (val_main_v60 (F := Ideal) x0 x1 x2 x4 x5 x6 x7 x8 x9 x11 x12 (ix2 e o) : EReal) else 0 := by
    unfold val_main_v63
    rw [scatter_rows _ (fun e c idx => scatter16_ok e c idx), (start1_apply 0 n o).1, zero_add]
    simp only [(enters1_apply x1 _).1]
  have hcnt : val_main_v67 (F := Ideal) x1 (ix2 n 0) = ∑ e, if (x1 (ix2 1 e)).toInt = ((n.val : ℕ) : ℤ) then (1 : EReal) else 0 := by
    unfold val_main_v67
    rw [scatter_rows _ (fun e c idx => scatter1_ok e c idx), (start1_apply 0 n o).2.1, zero_add]
    simp only [(enters1_apply x1 _).2, fun e => (start1_apply e n o).2.2]
  rw [out1_apply, hsum, hcnt]
  refine conv_real N.h1 N.root1 N.msg1 N.gate1 N.b1 (fun e => (x1 (ix2 1 e)).toInt) h.dst o _ (fun s e => ?_) n.val n.isLt _ _
    (fun c => hp n c) (fun c => h.root1 c o) _ (h.b1 o)
  rw [update1_apply, EReal.coe_mul, coe_sum]
  refine Ideal.mul_congr (Finset.sum_congr rfl fun c _ => ?_) ?_
  · rw [EReal.coe_mul, h.msg1]
    refine congrArg (fun z : EReal => z * ((N.msg1 c o : ℝ) : EReal)) ?_
    unfold val_main_v51
    rw [gather16 _ _ _ _ ⟨src s e.val, src_fin s e⟩ (leaves1_apply x1 _ _ (h.src s e)), hp]
  · rw [← h.gate1 s o]
    simp only [h.attr s e]

end

end Cert.ReferenceIdeal.Rows

end
-- ==== Proof.RefLayer2.lean ====
/- The reference's third layer over the reals. -/
module

public import proofs.«01_k».proof.Proof.Net
public import proofs.«01_k».proof.Proof.RefMean
public import proofs.«01_k».proof.Proof.RefRows
public import proofs.«01_k».proof.Proof.RefLayer1

@[expose] public section

noncomputable section

namespace Cert.ReferenceIdeal.Rows

open Idealize.ShloMosaic Cert.ReferenceIdeal Cert.ReferenceIdeal.Read Cert.Proof.Grid
open Cert.KernelIdeal.Tile (coe_sum coe_max)

section
variable [Facts]

set_option maxRecDepth 16384 in
/-- The layer at a node: root term, mean of the messages, bias. -/
theorem out2_apply (x0 : FVec Ideal S147456x1 .f32) (x1 : IVec S2x552960 32) (x2 : FVec Ideal S552960x2 .f32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32) (x14 : FVec Ideal S16x32 .f32) (x15 : FVec Ideal S16x32 .f32) (x16 : FVec Ideal S2x32 .f32) (x17 : FVec Ideal S32 .f32)
    (n : Fin 147456) (o : Fin 32) :
    val_main_v114 (F := Ideal) x0 x1 x2 x4 x5 x6 x7 x8 x9 x10 x11 x12 x13 x14 x15 x16 x17 (ix2 n o)
      = max (((∑ k, val_main_v77 (F := Ideal) x0 x1 x2 x4 x5 x6 x7 x8 x9 x10 x11 x12 x13 (ix2 n k) * x14 (ix2 k o))
          + Ideal.div (val_main_v100 (F := Ideal) x0 x1 x2 x4 x5 x6 x7 x8 x9 x10 x11 x12 x13 x15 x16 (ix2 n o)) (max (val_main_v104 (F := Ideal) x1 (ix2 n 0)) 1)) + x17 (ix1 o)) 0 := by
  pointwise [val_main_v114, val_main_v113, val_main_v112, val_main_v111, val_main_v110, val_main_v109, val_main_v108, val_main_v107, val_main_v106, val_main_v105, val_main_call2_v0, val_main_call2_cst, val_main_cst_21]

set_option maxRecDepth 16384 in
/-- The message of an edge. -/
theorem update2_apply (x0 : FVec Ideal S147456x1 .f32) (x1 : IVec S2x552960 32) (x2 : FVec Ideal S552960x2 .f32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32) (x15 : FVec Ideal S16x32 .f32) (x16 : FVec Ideal S2x32 .f32)
    (e : Fin 552960) (o : Fin 32) :
    val_main_v97 (F := Ideal) x0 x1 x2 x4 x5 x6 x7 x8 x9 x10 x11 x12 x13 x15 x16 (ix2 e o)
      = (∑ k, val_main_v88 (F := Ideal) x0 x1 x2 x4 x5 x6 x7 x8 x9 x10 x11 x12 x13 (ix2 e k) * x15 (ix2 k o))
          * Ideal.logistic (∑ k, x2 (ix2 e k) * x16 (ix2 k o)) := by
  pointwise [val_main_v97, val_main_v96, val_main_v95, val_main_v94, val_main_v93, val_main_v92, val_main_v91, val_main_v90, val_main_v89, val_main_cst_16, val_main_cst_17, Ideal.logistic]

/-- The node an edge enters, in the sum and in the count. -/
theorem enters2_apply (x1 : IVec S2x552960 32) (e : Fin 552960) :
    val_main_v99 (F := Ideal) x1 (ix2 e 0) = x1 (ix2 1 e) ∧ val_main_v103 (F := Ideal) x1 (ix2 e 0) = x1 (ix2 1 e) := by
  constructor
  · pointwise [val_main_v99, val_main_v81, val_main_v80]
  · pointwise [val_main_v103, val_main_v81, val_main_v80]

/-- The node an edge leaves. -/
theorem leaves2_apply (x1 : IVec S2x552960 32) (e : Fin 552960) (m : ℕ) (h : (x1 (ix2 0 e)).toInt = (m : ℤ)) :
    (val_main_v87 (F := Ideal) x1 (ix2 e 0)).toInt = (m : ℤ) := by
  have q : val_main_v87 (F := Ideal) x1 (ix2 e 0)
      = Scalar.select (IntOp.cmpi .slt (x1 (ix2 0 e)) 0#32) (IntOp.addi (x1 (ix2 0 e)) 147456#32) (x1 (ix2 0 e)) := by
    pointwise [val_main_v87, val_main_v86, val_main_v85, val_main_v84, val_main_v83, val_main_v82, val_main_v79, val_main_v78, val_main_c_14, val_main_c_15]
  rw [q, unwrapped _ m h, h]

/-- The sums start at nothing and the count adds ones. -/
theorem start2_apply (e : Fin 552960) (n : Fin 147456) (o : Fin 32) :
    val_main_v98 (F := Ideal) (ix2 n o) = (0 : EReal) ∧ val_main_v102 (F := Ideal) (ix2 n 0) = (0 : EReal) ∧ val_main_v101 (F := Ideal) (ix2 e 0) = (1 : EReal) := by
  refine ⟨?_, ?_, ?_⟩
  · pointwise [val_main_v98, val_main_cst_18]
  · pointwise [val_main_v102, val_main_cst_20]
  · pointwise [val_main_v101, val_main_cst_19]

/-- The third layer is the network's. -/
theorem layer2_real {N : Net} (x0 : FVec Ideal S147456x1 .f32) (x1 : IVec S2x552960 32) (x2 : FVec Ideal S552960x2 .f32) (x3 : IVec S147456 32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32) (x14 : FVec Ideal S16x32 .f32) (x15 : FVec Ideal S16x32 .f32) (x16 : FVec Ideal S2x32 .f32) (x17 : FVec Ideal S32 .f32) (x18 : FVec Ideal S32x1536 .f32) (x19 : FVec Ideal S512x32 .f32)
    (h : Meets N x0 x1 x2 x3 x4 x5 x6 x7 x8 x9 x10 x11 x12 x13 x14 x15 x16 x17 x18 x19) (n : Fin 147456) (o : Fin 32) :
    val_main_v114 (F := Ideal) x0 x1 x2 x4 x5 x6 x7 x8 x9 x10 x11 x12 x13 x14 x15 x16 x17 (ix2 n o) = ((N.h3 n.val o : ℝ) : EReal) := by
  have hp : ∀ (m : Fin 147456) (c : Fin 16), val_main_v77 (F := Ideal) x0 x1 x2 x4 x5 x6 x7 x8 x9 x10 x11 x12 x13 (ix2 m c) = ((N.h2 m.val c : ℝ) : EReal) := by
    intro m c
    exact layer1_real (h := h) (n := m) (o := c)
  have hsum : val_main_v100 (F := Ideal) x0 x1 x2 x4 x5 x6 x7 x8 x9 x10 x11 x12 x13 x15 x16 (ix2 n o)
      = ∑ e, if (x1 (ix2 1 e)).toInt = ((n.val : ℕ) : ℤ) then (val_main_v97 (F := Ideal) x0 x1 x2 x4 x5 x6 x7 x8 x9 x10 x11 x12 x13 x15 x16 (ix2 e o) : EReal) else 0 := by
    unfold val_main_v100
    rw [scatter_rows _ (fun e c idx => scatter32_ok e c idx), (start2_apply 0 n o).1, zero_add]
    simp only [(enters2_apply x1 _).1]
  have hcnt : val_main_v104 (F := Ideal) x1 (ix2 n 0) = ∑ e, if (x1 (ix2 1 e)).toInt = ((n.val : ℕ) : ℤ) then (1 : EReal) else 0 := by
    unfold val_main_v104
    rw [scatter_rows _ (fun e c idx => scatter1_ok e c idx), (start2_apply 0 n o).2.1, zero_add]
    simp only [(enters2_apply x1 _).2, fun e => (start2_apply e n o).2.2]
  rw [out2_apply, hsum, hcnt]
  refine conv_real N.h2 N.root2 N.msg2 N.gate2 N.b2 (fun e => (x1 (ix2 1 e)).toInt) h.dst o _ (fun s e => ?_) n.val n.isLt _ _
    (fun c => hp n c) (fun c => h.root2 c o) _ (h.b2 o)
  rw [update2_apply, EReal.coe_mul, coe_sum]
  refine Ideal.mul_congr (Finset.sum_congr rfl fun c _ => ?_) ?_
  · rw [EReal.coe_mul, h.msg2]
    refine congrArg (fun z : EReal => z * ((N.msg2 c o : ℝ) : EReal)) ?_
    unfold val_main_v88
    rw [gather16 _ _ _ _ ⟨src s e.val, src_fin s e⟩ (leaves2_apply x1 _ _ (h.src s e)), hp]
  · rw [← h.gate2 s o]
    simp only [h.attr s e]

end

end Cert.ReferenceIdeal.Rows

end
-- ==== Proof.RefTokens.lean ====
/- The reference's tokens are the network's. -/
module

public import proofs.«01_k».proof.Proof.RefLayer2
public import proofs.«01_k».proof.Proof.Tokens

@[expose] public section

noncomputable section

namespace Cert.ReferenceIdeal.Rows

open Idealize.ShloMosaic Cert.ReferenceIdeal Cert.ReferenceIdeal.Read Cert.Proof.Grid

/-- Choosing by whether an index is `p`. -/
theorem choose_apply (w : BitVec 32) (a p : ℕ) (ha : w.toInt = (a : ℤ)) (hp : p < 576) (x y : EReal) :
    Scalar.select (IntOp.cmpi .eq w (BitVec.ofNat 32 p)) x y = if a = p then x else y := by
  have hp' : (BitVec.ofNat 32 p).toInt = (p : ℤ) := by
    rw [BitVec.toInt_eq_toNat_of_lt (by rw [BitVec.toNat_ofNat]; omega), BitVec.toNat_ofNat, Nat.mod_eq_of_lt (by omega)]
  have e : w = BitVec.ofNat 32 p ↔ a = p := by
    constructor
    · intro q
      rw [q, hp'] at ha
      omega
    · rintro rfl
      exact BitVec.eq_of_toInt_eq (ha.trans hp'.symm)
  by_cases q : a = p
  · rw [if_pos q, e.2 q]
    show Scalar.select (BitVec.ofBool (BitVec.ofNat 32 p == BitVec.ofNat 32 p)) x y = x
    rw [beq_self_eq_true]; rfl
  · rw [if_neg q]
    show Scalar.select (BitVec.ofBool (w == BitVec.ofNat 32 p)) x y = y
    rw [beq_false_of_ne (fun r => q (e.1 r))]; rfl

/-- The bits of minus infinity. -/
theorem bits_bot : Ideal.ofBits FTy.f32 0xFF800000#32 = (⊥ : EReal) := by
  simp [Ideal.ofBits, Ideal.ieee]

section
variable [Facts]

set_option maxRecDepth 16384 in
/-- A token: the largest, over the nodes, of the patch's features. -/
theorem token_apply (x0 : FVec Ideal S147456x1 .f32) (x1 : IVec S2x552960 32) (x2 : FVec Ideal S552960x2 .f32) (x3 : IVec S147456 32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32) (x14 : FVec Ideal S16x32 .f32) (x15 : FVec Ideal S16x32 .f32) (x16 : FVec Ideal S2x32 .f32) (x17 : FVec Ideal S32 .f32) (p : Fin 576) (k : Fin 32) :
    val_main_v124 (F := Ideal) x0 x1 x2 x3 x4 x5 x6 x7 x8 x9 x10 x11 x12 x13 x14 x15 x16 x17 (ix2 p k)
      = Finset.univ.fold max (Ideal.ofBits FTy.f32 0xFF800000#32) (fun n : Fin 147456 =>
          Scalar.select (IntOp.cmpi .eq (x3 (ix1 n)) (BitVec.ofNat 32 p.val))
            (val_main_v114 (F := Ideal) x0 x1 x2 x4 x5 x6 x7 x8 x9 x10 x11 x12 x13 x14 x15 x16 x17 (ix2 n k)) (Ideal.ofBits FTy.f32 0xFF800000#32)) := by
  pointwise [val_main_v124, val_main_cst_23, val_main_v123, val_main_call3_v0, val_main_call3_v1, val_main_call3_v2, val_main_call3_v3, val_main_cst_22, val_main_v122, val_main_v121, val_main_v120, val_main_v119, val_main_v118, val_main_v117, val_main_v116, val_main_v115]
  rfl

/-- The tokens the reference attends over. -/
theorem tokens_real {N : Net} {x0 : FVec Ideal S147456x1 .f32} {x1 : IVec S2x552960 32} {x2 : FVec Ideal S552960x2 .f32} {x3 : IVec S147456 32} {x4 : FVec Ideal S1x8 .f32} {x5 : FVec Ideal S8 .f32} {x6 : FVec Ideal S8x16 .f32} {x7 : FVec Ideal S8x16 .f32} {x8 : FVec Ideal S2x16 .f32} {x9 : FVec Ideal S16 .f32} {x10 : FVec Ideal S16x16 .f32} {x11 : FVec Ideal S16x16 .f32} {x12 : FVec Ideal S2x16 .f32} {x13 : FVec Ideal S16 .f32} {x14 : FVec Ideal S16x32 .f32} {x15 : FVec Ideal S16x32 .f32} {x16 : FVec Ideal S2x32 .f32} {x17 : FVec Ideal S32 .f32} {x18 : FVec Ideal S32x1536 .f32} {x19 : FVec Ideal S512x32 .f32}
    (h : Meets N x0 x1 x2 x3 x4 x5 x6 x7 x8 x9 x10 x11 x12 x13 x14 x15 x16 x17 x18 x19) (p : Fin 576) (k : Fin 32) :
    val_main_v124 (F := Ideal) x0 x1 x2 x3 x4 x5 x6 x7 x8 x9 x10 x11 x12 x13 x14 x15 x16 x17 (ix2 p k) = ((N.tok p.val k : ℝ) : EReal) := by
  rw [token_apply, bits_bot]
  have e : ∀ n : Fin 147456, Scalar.select (IntOp.cmpi .eq (x3 (ix1 n)) (BitVec.ofNat 32 p.val))
      (val_main_v114 (F := Ideal) x0 x1 x2 x4 x5 x6 x7 x8 x9 x10 x11 x12 x13 x14 x15 x16 x17 (ix2 n k)) (⊥ : EReal)
      = if patch n.val = p.val then ((N.h3 n.val k : ℝ) : EReal) else ⊥ := fun n => by
    rw [choose_apply _ (patch n.val) p.val (h.patch n) p.isLt, layer2_real (h := h)]
  refine N.eq_tok p.val k _ (Finset.sup_le fun n _ => ?_) fun q => ?_
  · rw [e]
    by_cases hp : patch n.val = p.val
    · rw [if_pos hp, EReal.coe_le_coe_iff]
      obtain ⟨q, hq⟩ := node_patch n.val
      rw [← hq, hp]
      exact N.h3_le_tok p.val k q
    · rw [if_neg hp]
      exact bot_le
  · have i := Finset.le_sup (f := fun n : Fin 147456 => Scalar.select (IntOp.cmpi .eq (x3 (ix1 n)) (BitVec.ofNat 32 p.val))
      (val_main_v114 (F := Ideal) x0 x1 x2 x4 x5 x6 x7 x8 x9 x10 x11 x12 x13 x14 x15 x16 x17 (ix2 n k)) (⊥ : EReal))
      (Finset.mem_univ (⟨node p.val q, node_lt p.val p.isLt q⟩ : Fin 147456))
    refine le_trans (le_of_eq ?_) i
    show _ = Scalar.select _ _ _
    rw [e, if_pos (patch_node p.val q)]

end

end Cert.ReferenceIdeal.Rows

end
-- ==== Proof.RefHeads.lean ====
/- The reference's attention, an array at an index at a time. -/
module

public import Idealize.ShloMosaic.Lib.Pointwise
public import proofs.«01_k».proof.Proof.RefTokens

@[expose] public section

noncomputable section

namespace Cert.ReferenceIdeal.Rows

open Idealize.ShloMosaic Cert.ReferenceIdeal Cert.ReferenceIdeal.Read Cert.Proof.Grid

variable [Facts] (x0 : FVec Ideal S147456x1 .f32) (x1 : IVec S2x552960 32) (x2 : FVec Ideal S552960x2 .f32) (x3 : IVec S147456 32) (x4 : FVec Ideal S1x8 .f32) (x5 : FVec Ideal S8 .f32) (x6 : FVec Ideal S8x16 .f32) (x7 : FVec Ideal S8x16 .f32) (x8 : FVec Ideal S2x16 .f32) (x9 : FVec Ideal S16 .f32) (x10 : FVec Ideal S16x16 .f32) (x11 : FVec Ideal S16x16 .f32) (x12 : FVec Ideal S2x16 .f32) (x13 : FVec Ideal S16 .f32) (x14 : FVec Ideal S16x32 .f32) (x15 : FVec Ideal S16x32 .f32) (x16 : FVec Ideal S2x32 .f32) (x17 : FVec Ideal S32 .f32) (x18 : FVec Ideal S32x1536 .f32) (x19 : FVec Ideal S512x32 .f32)

set_option maxRecDepth 16384 in
/-- The projections. -/
theorem proj_apply (i : Fin 576) (c : Fin 1536) :
    val_main_v126 (F := Ideal) x0 x1 x2 x3 x4 x5 x6 x7 x8 x9 x10 x11 x12 x13 x14 x15 x16 x17 x18 (ix3 0 i c)
      = ∑ k, val_main_v124 (F := Ideal) x0 x1 x2 x3 x4 x5 x6 x7 x8 x9 x10 x11 x12 x13 x14 x15 x16 x17 (ix2 i k) * x18 (ix2 k c) := by
  pointwise [val_main_v126, val_main_v125]

set_option maxRecDepth 16384 in
/-- A head's queries. -/
theorem query_apply (b : Fin 8) (i : Fin 576) (d : Fin 64) :
    val_main_v131 (F := Ideal) x0 x1 x2 x3 x4 x5 x6 x7 x8 x9 x10 x11 x12 x13 x14 x15 x16 x17 x18 (ix4 0 b i d)
      = val_main_v126 (F := Ideal) x0 x1 x2 x3 x4 x5 x6 x7 x8 x9 x10 x11 x12 x13 x14 x15 x16 x17 x18 (ix3 0 i ⟨b.val * 64 + d.val, by omega⟩) := by
  pointwise [val_main_v131, val_main_v130, val_main_v127]

set_option maxRecDepth 16384 in
/-- A head's keys. -/
theorem key_apply (b : Fin 8) (i : Fin 576) (d : Fin 64) :
    val_main_v133 (F := Ideal) x0 x1 x2 x3 x4 x5 x6 x7 x8 x9 x10 x11 x12 x13 x14 x15 x16 x17 x18 (ix4 0 b i d)
      = val_main_v126 (F := Ideal) x0 x1 x2 x3 x4 x5 x6 x7 x8 x9 x10 x11 x12 x13 x14 x15 x16 x17 x18 (ix3 0 i ⟨512 + (b.val * 64 + d.val), by omega⟩) := by
  pointwise [val_main_v133, val_main_v132, val_main_v128]

set_option maxRecDepth 16384 in
/-- A head's values. -/
theorem value_apply (b : Fin 8) (i : Fin 576) (d : Fin 64) :
    val_main_v135 (F := Ideal) x0 x1 x2 x3 x4 x5 x6 x7 x8 x9 x10 x11 x12 x13 x14 x15 x16 x17 x18 (ix4 0 b i d)
      = val_main_v126 (F := Ideal) x0 x1 x2 x3 x4 x5 x6 x7 x8 x9 x10 x11 x12 x13 x14 x15 x16 x17 x18 (ix3 0 i ⟨1024 + (b.val * 64 + d.val), by omega⟩) := by
  pointwise [val_main_v135, val_main_v134, val_main_v129]

set_option maxRecDepth 16384 in
/-- A head's scores. -/
theorem score_apply (b : Fin 8) (i j : Fin 576) :
    val_main_v142 (F := Ideal) x0 x1 x2 x3 x4 x5 x6 x7 x8 x9 x10 x11 x12 x13 x14 x15 x16 x17 x18 (ix4 0 b i j)
      = Ideal.div (∑ d, val_main_v131 (F := Ideal) x0 x1 x2 x3 x4 x5 x6 x7 x8 x9 x10 x11 x12 x13 x14 x15 x16 x17 x18 (ix4 0 b i d) * val_main_v133 (F := Ideal) x0 x1 x2 x3 x4 x5 x6 x7 x8 x9 x10 x11 x12 x13 x14 x15 x16 x17 x18 (ix4 0 b j d)) (Ideal.ofBits FTy.f32 0x41000000#32) := by
  pointwise [val_main_v142, val_main_v141, val_main_v140, val_main_v139, val_main_v138, val_main_v137, val_main_v136, val_main_cst_24]

set_option maxRecDepth 16384 in
/-- A head's exponentials. -/
theorem exp_apply (b : Fin 8) (i j : Fin 576) :
    val_main_v149 (F := Ideal) x0 x1 x2 x3 x4 x5 x6 x7 x8 x9 x10 x11 x12 x13 x14 x15 x16 x17 x18 (ix4 0 b i j)
      = Ideal.exp (val_main_v142 (F := Ideal) x0 x1 x2 x3 x4 x5 x6 x7 x8 x9 x10 x11 x12 x13 x14 x15 x16 x17 x18 (ix4 0 b i j) - max (Ideal.ofBits FTy.f32 0xFF800000#32) (Finset.univ.fold max (Ideal.ofBits FTy.f32 0xFF800000#32) fun x => val_main_v142 (F := Ideal) x0 x1 x2 x3 x4 x5 x6 x7 x8 x9 x10 x11 x12 x13 x14 x15 x16 x17 x18 (ix4 0 b i x))) := by
  pointwise [val_main_v149, val_main_v148, val_main_v147, val_main_v146, val_main_v145, val_main_v144, val_main_v143, val_main_cst_25, val_main_cst_26]

set_option maxRecDepth 16384 in
/-- A head's weights. -/
theorem weight_apply (b : Fin 8) (i j : Fin 576) :
    val_main_v153 (F := Ideal) x0 x1 x2 x3 x4 x5 x6 x7 x8 x9 x10 x11 x12 x13 x14 x15 x16 x17 x18 (ix4 0 b i j)
      = Ideal.div (val_main_v149 (F := Ideal) x0 x1 x2 x3 x4 x5 x6 x7 x8 x9 x10 x11 x12 x13 x14 x15 x16 x17 x18 (ix4 0 b i j)) (∑ x, val_main_v149 (F := Ideal) x0 x1 x2 x3 x4 x5 x6 x7 x8 x9 x10 x11 x12 x13 x14 x15 x16 x17 x18 (ix4 0 b i x)) := by
  pointwise [val_main_v153, val_main_v152, val_main_v151, val_main_v150, val_main_cst_27]

set_option maxRecDepth 16384 in
/-- The heads' outputs side by side. -/
theorem side_apply (i : Fin 576) (e : Fin 512) :
    val_main_v159 (F := Ideal) x0 x1 x2 x3 x4 x5 x6 x7 x8 x9 x10 x11 x12 x13 x14 x15 x16 x17 x18 (ix3 0 i e)
      = ∑ j, val_main_v153 (F := Ideal) x0 x1 x2 x3 x4 x5 x6 x7 x8 x9 x10 x11 x12 x13 x14 x15 x16 x17 x18 (ix4 0 ⟨e.val / 64, by omega⟩ i j) * val_main_v135 (F := Ideal) x0 x1 x2 x3 x4 x5 x6 x7 x8 x9 x10 x11 x12 x13 x14 x15 x16 x17 x18 (ix4 0 ⟨e.val / 64, by omega⟩ j ⟨e.val % 64, by omega⟩) := by
  pointwise [val_main_v159, val_main_v158, val_main_v157, val_main_v156, val_main_v155, val_main_v154]

set_option maxRecDepth 16384 in
/-- The result: the outputs' mean over the tokens. -/
theorem result_apply (o : Fin 32) :
    val_main_v163 (F := Ideal) x0 x1 x2 x3 x4 x5 x6 x7 x8 x9 x10 x11 x12 x13 x14 x15 x16 x17 x18 x19 (ix2 0 o)
      = Ideal.div (∑ i, ∑ e, val_main_v159 (F := Ideal) x0 x1 x2 x3 x4 x5 x6 x7 x8 x9 x10 x11 x12 x13 x14 x15 x16 x17 x18 (ix3 0 i e) * x19 (ix2 e o)) (Ideal.ofBits FTy.f32 0x44100000#32) := by
  pointwise [val_main_v163, val_main_v162, val_main_v161, val_main_v160, val_main_cst_28, val_main_cst_29]

end Cert.ReferenceIdeal.Rows

end
-- ==== Proof.RefAttention.lean ====
/- The reference's attention is the network's. -/
module

public import proofs.«01_k».proof.Proof.Attention
public import proofs.«01_k».proof.Proof.RefHeads

@[expose] public section

noncomputable section

namespace Cert.ReferenceIdeal.Rows

open Idealize.ShloMosaic Cert.ReferenceIdeal Cert.ReferenceIdeal.Read Cert.Proof.Grid
open Cert.KernelIdeal.Tile (coe_sum coe_max)

/-- The score's divisor. -/
theorem bits_eight : Ideal.ofBits FTy.f32 0x41000000#32 = ((8 : ℝ) : EReal) := by
  simp [Ideal.ofBits, Ideal.ieee, -EReal.coe_mul]; norm_num

/-- A quotient of reals, as the division of extended reals gives it. -/
theorem coe_div (a c : ℝ) : (a : EReal) * ((1 / c : ℝ) : EReal) = ((a / c : ℝ) : EReal) := by
  rw [← EReal.coe_mul, mul_one_div]

/-- The number of tokens. -/
theorem bits_tokens : Ideal.ofBits FTy.f32 0x44100000#32 = ((576 : ℝ) : EReal) := by
  simp [Ideal.ofBits, Ideal.ieee, -EReal.coe_mul]; norm_num

/-- A sum over the heads' columns, head by head. -/
theorem sum_heads (f : Fin 512 → ℝ) : ∑ e, f e = ∑ b : Fin 8, ∑ d : Fin 64, f ⟨64 * b.val + d.val, by omega⟩ := by
  rw [← Fintype.sum_prod_type' (f := fun (b : Fin 8) (d : Fin 64) => f ⟨64 * b.val + d.val, by omega⟩)]
  refine (Fintype.sum_equiv (finProdFinEquiv (m := 8) (n := 64)) _ _ fun p => congrArg f (Fin.ext ?_)).symm
  show 64 * p.1.val + p.2.val = p.2.val + 64 * p.1.val
  omega

/-- A head's output in a channel of it, at a token. -/
def out (N : Net) (b : Fin 8) (i : Fin 576) (d : Fin 64) : ℝ :=
  ∑ j, N.exps b i j / den (N.exps b) i * N.part (1024 + 64 * b.val) (by omega) j d

/-- The heads' outputs through the last weights, averaged over the tokens, are the network's result. -/
theorem out_eq (N : Net) (o : Fin 32) :
    N.out o = (∑ i, ∑ e : Fin 512, out N ⟨e.val / 64, by omega⟩ i ⟨e.val % 64, by omega⟩ * N.wout e o) / 576 := by
  unfold Net.out Net.head
  rw [Finset.sum_congr rfl fun b _ => mixed_eq (N.exps b) _ _, ← Finset.sum_div, Finset.sum_comm]
  refine congrArg (· / (576 : ℝ)) (Finset.sum_congr rfl fun i _ => ?_)
  rw [sum_heads]
  refine Finset.sum_congr rfl fun b _ => Finset.sum_congr rfl fun d _ => ?_
  have hb : (⟨(64 * b.val + d.val) / 64, by omega⟩ : Fin 8) = b := Fin.ext (show (64 * b.val + d.val) / 64 = b.val by omega)
  have hd : (⟨(64 * b.val + d.val) % 64, by omega⟩ : Fin 64) = d := Fin.ext (show (64 * b.val + d.val) % 64 = d.val by omega)
  rw [hb, hd]
  rfl

section
variable [Facts] {N : Net} {x0 : FVec Ideal S147456x1 .f32} {x1 : IVec S2x552960 32} {x2 : FVec Ideal S552960x2 .f32} {x3 : IVec S147456 32} {x4 : FVec Ideal S1x8 .f32} {x5 : FVec Ideal S8 .f32} {x6 : FVec Ideal S8x16 .f32} {x7 : FVec Ideal S8x16 .f32} {x8 : FVec Ideal S2x16 .f32} {x9 : FVec Ideal S16 .f32} {x10 : FVec Ideal S16x16 .f32} {x11 : FVec Ideal S16x16 .f32} {x12 : FVec Ideal S2x16 .f32} {x13 : FVec Ideal S16 .f32} {x14 : FVec Ideal S16x32 .f32} {x15 : FVec Ideal S16x32 .f32} {x16 : FVec Ideal S2x32 .f32} {x17 : FVec Ideal S32 .f32} {x18 : FVec Ideal S32x1536 .f32} {x19 : FVec Ideal S512x32 .f32}
  (h : Meets N x0 x1 x2 x3 x4 x5 x6 x7 x8 x9 x10 x11 x12 x13 x14 x15 x16 x17 x18 x19)
include h

/-- The projections. -/
theorem proj_real (i : Fin 576) (c : Fin 1536) : val_main_v126 (F := Ideal) x0 x1 x2 x3 x4 x5 x6 x7 x8 x9 x10 x11 x12 x13 x14 x15 x16 x17 x18 (ix3 0 i c) = ((N.proj i c : ℝ) : EReal) := by
  refine (proj_apply x0 x1 x2 x3 x4 x5 x6 x7 x8 x9 x10 x11 x12 x13 x14 x15 x16 x17 x18 i c).trans ?_
  unfold Net.proj
  rw [coe_sum]
  exact Finset.sum_congr rfl fun k _ => by rw [tokens_real h, h.wqkv, EReal.coe_mul]

/-- A projection in a column named another way. -/
theorem part_of (o : ℕ) (ho : o + 64 ≤ 1536) (i : Fin 576) (d : Fin 64) (c : Fin 1536) (hc : c.val = o + d.val) :
    val_main_v126 (F := Ideal) x0 x1 x2 x3 x4 x5 x6 x7 x8 x9 x10 x11 x12 x13 x14 x15 x16 x17 x18 (ix3 0 i c) = ((N.part o ho i d : ℝ) : EReal) := by
  refine (proj_real h i c).trans ?_
  have e : c = ⟨o + d.val, by omega⟩ := Fin.ext hc
  rw [e]
  rfl

/-- The queries. -/
theorem query_real (b : Fin 8) (i : Fin 576) (d : Fin 64) :
    val_main_v131 (F := Ideal) x0 x1 x2 x3 x4 x5 x6 x7 x8 x9 x10 x11 x12 x13 x14 x15 x16 x17 x18 (ix4 0 b i d) = ((N.part (64 * b.val) (by omega) i d : ℝ) : EReal) :=
  (query_apply x0 x1 x2 x3 x4 x5 x6 x7 x8 x9 x10 x11 x12 x13 x14 x15 x16 x17 x18 b i d).trans (part_of h _ _ i d _ (show b.val * 64 + d.val = 64 * b.val + d.val by omega))

/-- The keys. -/
theorem key_real (b : Fin 8) (i : Fin 576) (d : Fin 64) :
    val_main_v133 (F := Ideal) x0 x1 x2 x3 x4 x5 x6 x7 x8 x9 x10 x11 x12 x13 x14 x15 x16 x17 x18 (ix4 0 b i d) = ((N.part (512 + 64 * b.val) (by omega) i d : ℝ) : EReal) :=
  (key_apply x0 x1 x2 x3 x4 x5 x6 x7 x8 x9 x10 x11 x12 x13 x14 x15 x16 x17 x18 b i d).trans (part_of h _ _ i d _ (show 512 + (b.val * 64 + d.val) = 512 + 64 * b.val + d.val by omega))

/-- The values. -/
theorem value_real (b : Fin 8) (i : Fin 576) (d : Fin 64) :
    val_main_v135 (F := Ideal) x0 x1 x2 x3 x4 x5 x6 x7 x8 x9 x10 x11 x12 x13 x14 x15 x16 x17 x18 (ix4 0 b i d) = ((N.part (1024 + 64 * b.val) (by omega) i d : ℝ) : EReal) :=
  (value_apply x0 x1 x2 x3 x4 x5 x6 x7 x8 x9 x10 x11 x12 x13 x14 x15 x16 x17 x18 b i d).trans (part_of h _ _ i d _ (show 1024 + (b.val * 64 + d.val) = 1024 + 64 * b.val + d.val by omega))

/-- The scores. -/
theorem score_real (b : Fin 8) (i j : Fin 576) :
    val_main_v142 (F := Ideal) x0 x1 x2 x3 x4 x5 x6 x7 x8 x9 x10 x11 x12 x13 x14 x15 x16 x17 x18 (ix4 0 b i j) = ((score (N.part (64 * b.val) (by omega)) (N.part (512 + 64 * b.val) (by omega)) i j : ℝ) : EReal) := by
  refine (score_apply x0 x1 x2 x3 x4 x5 x6 x7 x8 x9 x10 x11 x12 x13 x14 x15 x16 x17 x18 b i j).trans ?_
  unfold score
  rw [bits_eight, Ideal.div_coe (by norm_num)]
  refine Eq.trans ?_ (coe_div _ _)
  rw [coe_sum]
  refine congrArg (fun z : EReal => z * ((1 / 8 : ℝ) : EReal)) (Finset.sum_congr rfl fun d _ => ?_)
  rw [query_real h, key_real h, EReal.coe_mul]

/-- The exponentials. -/
theorem exp_real (b : Fin 8) (i j : Fin 576) : val_main_v149 (F := Ideal) x0 x1 x2 x3 x4 x5 x6 x7 x8 x9 x10 x11 x12 x13 x14 x15 x16 x17 x18 (ix4 0 b i j) = ((N.exps b i j : ℝ) : EReal) := by
  refine (exp_apply x0 x1 x2 x3 x4 x5 x6 x7 x8 x9 x10 x11 x12 x13 x14 x15 x16 x17 x18 b i j).trans ?_
  rw [fold_coe _ _ fun x => score_real h b i x, score_real h, bits_bot, max_eq_right bot_le, ← EReal.coe_sub]
  rfl

/-- The weights. -/
theorem weight_real (b : Fin 8) (i j : Fin 576) : val_main_v153 (F := Ideal) x0 x1 x2 x3 x4 x5 x6 x7 x8 x9 x10 x11 x12 x13 x14 x15 x16 x17 x18 (ix4 0 b i j) = ((N.exps b i j / den (N.exps b) i : ℝ) : EReal) := by
  refine (weight_apply x0 x1 x2 x3 x4 x5 x6 x7 x8 x9 x10 x11 x12 x13 x14 x15 x16 x17 x18 b i j).trans ?_
  have hd : (∑ x, (val_main_v149 (F := Ideal) x0 x1 x2 x3 x4 x5 x6 x7 x8 x9 x10 x11 x12 x13 x14 x15 x16 x17 x18 (ix4 0 b i x) : EReal)) = ((den (N.exps b) i : ℝ) : EReal) := by
    unfold den
    rw [coe_sum]
    exact Finset.sum_congr rfl fun x _ => exp_real h b i x
  rw [hd, exp_real h, Ideal.div_coe (show den (N.exps b) i ≠ 0 from (den_pos _ i).ne'), coe_div]

/-- The heads' outputs. -/
theorem side_real (i : Fin 576) (e : Fin 512) :
    val_main_v159 (F := Ideal) x0 x1 x2 x3 x4 x5 x6 x7 x8 x9 x10 x11 x12 x13 x14 x15 x16 x17 x18 (ix3 0 i e) = ((out N ⟨e.val / 64, by omega⟩ i ⟨e.val % 64, by omega⟩ : ℝ) : EReal) := by
  refine (side_apply x0 x1 x2 x3 x4 x5 x6 x7 x8 x9 x10 x11 x12 x13 x14 x15 x16 x17 x18 i e).trans ?_
  unfold out
  rw [coe_sum]
  exact Finset.sum_congr rfl fun j _ => by rw [weight_real h, value_real h, EReal.coe_mul]

/-- The reference's result. -/
theorem result_real (o : Fin 32) : val_main_v163 (F := Ideal) x0 x1 x2 x3 x4 x5 x6 x7 x8 x9 x10 x11 x12 x13 x14 x15 x16 x17 x18 x19 (ix2 0 o) = ((N.out o : ℝ) : EReal) := by
  refine (result_apply x0 x1 x2 x3 x4 x5 x6 x7 x8 x9 x10 x11 x12 x13 x14 x15 x16 x17 x18 x19 o).trans ?_
  rw [out_eq, bits_tokens, Ideal.div_coe (by norm_num)]
  refine Eq.trans ?_ (coe_div _ _)
  rw [coe_sum]
  refine congrArg (fun z : EReal => z * ((1 / 576 : ℝ) : EReal)) (Finset.sum_congr rfl fun i _ => ?_)
  rw [coe_sum]
  exact Finset.sum_congr rfl fun e _ => by rw [side_real h, h.wout, EReal.coe_mul]

end

end Cert.ReferenceIdeal.Rows

end
-- ==== Proof.PreGrid.lean ====
/- What the precondition says: the argument arrays hold a network's numbers on the grid graph. -/
module

public import Idealize.ShloMosaic.Lib.Pointwise
public import Idealize.ShloMosaic.Lib.Routing.Words
public import proofs.«01_k».proof.Pre_grid_graph
public import proofs.«01_k».proof.Proof.Net

@[expose] public section

noncomputable section

namespace Cert.Pre_grid_graph

open Idealize.ShloMosaic Cert.Proof.Grid

/-- Equal words compare to one, and no others do. -/
theorem eq_of_cmpi (a b : BitVec 32) (h : IntOp.cmpi .eq a b = 1#1) : a = b := by
  by_contra hn
  have : IntOp.cmpi .eq a b = 0#1 := by
    show BitVec.ofBool (a == b) = 0#1
    rw [beq_false_of_ne hn]; rfl
  rw [this] at h
  exact absurd h (by decide)

/-- The words of the grid's numbering: rows of `a` positions laid out every `b`. -/
theorem row_word (e a b : ℕ) (he : e < 2 ^ 31) (ha : 0 < a) (ha' : a < 2 ^ 31) :
    IntOp.addi (IntOp.muli (IntOp.divsi .host (BitVec.ofNat 32 e) (BitVec.ofNat 32 a)) (BitVec.ofNat 32 b)) (IntOp.remsi .host (BitVec.ofNat 32 e) (BitVec.ofNat 32 a))
      = BitVec.ofNat 32 (e / a * b + e % a) := by
  rw [Routing.divsi_word .host he ha ha', Routing.remsi_word .host he ha ha', BitVec.ofNat_add, BitVec.ofNat_mul]
  rfl

/-- The same, a fixed number further. -/
theorem row_word_add (e a b k : ℕ) (he : e < 2 ^ 31) (ha : 0 < a) (ha' : a < 2 ^ 31) :
    IntOp.addi (IntOp.addi (IntOp.muli (IntOp.divsi .host (BitVec.ofNat 32 e) (BitVec.ofNat 32 a)) (BitVec.ofNat 32 b)) (IntOp.remsi .host (BitVec.ofNat 32 e) (BitVec.ofNat 32 a)))
      (BitVec.ofNat 32 k) = BitVec.ofNat 32 (e / a * b + e % a + k) := by
  rw [row_word e a b he ha ha', BitVec.ofNat_add (x := e / a * b + e % a)]
  rfl

/-- The word of a patch's number. -/
theorem patch_word (n : ℕ) (hn : n < 147456) :
    IntOp.addi (IntOp.muli (IntOp.divsi .host (BitVec.ofNat 32 n) 6144#32) 24#32) (IntOp.divsi .host (IntOp.remsi .host (BitVec.ofNat 32 n) 384#32) 16#32)
      = BitVec.ofNat 32 (n / 6144 * 24 + n % 384 / 16) := by
  rw [Routing.divsi_word .host (by omega) (by norm_num) (by norm_num), Routing.remsi_word .host (by omega) (by norm_num) (by norm_num),
    Routing.divsi_word .host (by omega) (by norm_num) (by norm_num), BitVec.ofNat_add, BitVec.ofNat_mul]
  rfl

/-- A small number's word, read as an integer. -/
theorem toInt_word (w : BitVec 32) (a : ℕ) (h : w = BitVec.ofNat 32 a) (ha : a < 2 ^ 31) : w.toInt = (a : ℤ) := by
  rw [h, BitVec.toInt_eq_toNat_of_lt (by rw [BitVec.toNat_ofNat]; omega), BitVec.toNat_ofNat, Nat.mod_eq_of_lt (by omega)]

/-- An extended real whose absolute value is below infinity is real. -/
theorem real_of_abs (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  have hlt := (Ideal.cmp_olt_eq_one _ _).1 h
  rw [htop, max_lt_iff] at hlt
  refine (EReal.coe_toReal hlt.1.ne ?_).symm
  rintro rfl
  simp at hlt

/-- An array the precondition calls finite. -/
theorem real_of_finite {s : Shape} (x : FVec Ideal s .f32) (b : S_.BroadcastsInDim s (![] : Fin 0 → Fin s.rank))
    (h : cmpf .olt (Host.absf x) (broadcastInDim s ![] b (constant (F := Ideal) S_ .f32 0x7F800000#32)) = fun _ => 1#1) (j : s.Idx) :
    x j = (((x j : EReal).toReal : ℝ) : EReal) :=
  real_of_abs (x j) (congrFun h j)

section
variable [Facts] {x0 : FVec Ideal S147456x1 .f32} {x1 : IVec S2x552960 32} {x2 : FVec Ideal S552960x2 .f32} {x3 : IVec S147456 32} {x4 : FVec Ideal S1x8 .f32} {x5 : FVec Ideal S8 .f32} {x6 x7 : FVec Ideal S8x16 .f32} {x8 : FVec Ideal S2x16 .f32} {x9 : FVec Ideal S16 .f32} {x10 x11 : FVec Ideal S16x16 .f32} {x12 : FVec Ideal S2x16 .f32} {x13 : FVec Ideal S16 .f32} {x14 x15 : FVec Ideal S16x32 .f32} {x16 : FVec Ideal S2x32 .f32} {x17 : FVec Ideal S32 .f32} {x18 : FVec Ideal S32x1536 .f32} {x19 : FVec Ideal S512x32 .f32}

set_option maxRecDepth 131072 in
/-- The edges of the graph. -/
theorem edges {p} (hp : p = fn (F := Ideal) x0 x1 x2 x3 x4 x5 x6 x7 x8 x9 x10 x11 x12 x13 x14 x15 x16 x17 x18 x19) (h0 : p.1 = fun _ => 1#1) (h1 : p.2.1 = fun _ => 1#1) (h2 : p.2.2.1 = fun _ => 1#1) (h3 : p.2.2.2.1 = fun _ => 1#1) (h4 : p.2.2.2.2.1 = fun _ => 1#1) (h5 : p.2.2.2.2.2.1 = fun _ => 1#1) (h6 : p.2.2.2.2.2.2.1 = fun _ => 1#1) (h7 : p.2.2.2.2.2.2.2.1 = fun _ => 1#1) (e : Fin 138240) :
    x1 (ix2 0 ⟨e.val, by omega⟩) = BitVec.ofNat 32 (e.val / 15 * 16 + e.val % 15)
      ∧ x1 (ix2 1 ⟨e.val, by omega⟩) = BitVec.ofNat 32 (e.val / 15 * 16 + e.val % 15 + 1)
      ∧ x1 (ix2 0 ⟨138240 + e.val, by omega⟩) = BitVec.ofNat 32 (e.val / 15 * 16 + e.val % 15 + 1)
      ∧ x1 (ix2 1 ⟨138240 + e.val, by omega⟩) = BitVec.ofNat 32 (e.val / 15 * 16 + e.val % 15)
      ∧ x1 (ix2 0 ⟨276480 + e.val, by omega⟩) = BitVec.ofNat 32 (e.val / 5760 * 6144 + e.val % 5760)
      ∧ x1 (ix2 1 ⟨276480 + e.val, by omega⟩) = BitVec.ofNat 32 (e.val / 5760 * 6144 + e.val % 5760 + 384)
      ∧ x1 (ix2 0 ⟨414720 + e.val, by omega⟩) = BitVec.ofNat 32 (e.val / 5760 * 6144 + e.val % 5760 + 384)
      ∧ x1 (ix2 1 ⟨414720 + e.val, by omega⟩) = BitVec.ofNat 32 (e.val / 5760 * 6144 + e.val % 5760) := by
  subst hp
  refine ⟨?_, ?_, ?_, ?_, ?_, ?_, ?_, ?_⟩
  · refine (eq_of_cmpi _ _ (Eq.trans (Eq.symm ?_) (congrFun h0 (ix1 e)))).trans (row_word e.val 15 16 (by omega) (by norm_num) (by norm_num))
    pointwise [fn, fn_part1, fn_part2, fn_part3, fn_part4, fn_part5]
  · refine (eq_of_cmpi _ _ (Eq.trans (Eq.symm ?_) (congrFun h1 (ix1 e)))).trans (row_word_add e.val 15 16 1 (by omega) (by norm_num) (by norm_num))
    pointwise [fn, fn_part1, fn_part2, fn_part3, fn_part4, fn_part5]
  · refine (eq_of_cmpi _ _ (Eq.trans (Eq.symm ?_) (congrFun h2 (ix1 e)))).trans (row_word_add e.val 15 16 1 (by omega) (by norm_num) (by norm_num))
    pointwise [fn, fn_part1, fn_part2, fn_part3, fn_part4, fn_part5]
  · refine (eq_of_cmpi _ _ (Eq.trans (Eq.symm ?_) (congrFun h3 (ix1 e)))).trans (row_word e.val 15 16 (by omega) (by norm_num) (by norm_num))
    pointwise [fn, fn_part1, fn_part2, fn_part3, fn_part4, fn_part5]
  · refine (eq_of_cmpi _ _ (Eq.trans (Eq.symm ?_) (congrFun h4 (ix1 e)))).trans (row_word e.val 5760 6144 (by omega) (by norm_num) (by norm_num))
    pointwise [fn, fn_part1, fn_part2, fn_part3, fn_part4, fn_part5]
  · refine (eq_of_cmpi _ _ (Eq.trans (Eq.symm ?_) (congrFun h5 (ix1 e)))).trans (row_word_add e.val 5760 6144 384 (by omega) (by norm_num) (by norm_num))
    pointwise [fn, fn_part1, fn_part2, fn_part3, fn_part4, fn_part5]
  · refine (eq_of_cmpi _ _ (Eq.trans (Eq.symm ?_) (congrFun h6 (ix1 e)))).trans (row_word_add e.val 5760 6144 384 (by omega) (by norm_num) (by norm_num))
    pointwise [fn, fn_part1, fn_part2, fn_part3, fn_part4, fn_part5]
  · refine (eq_of_cmpi _ _ (Eq.trans (Eq.symm ?_) (congrFun h7 (ix1 e)))).trans (row_word e.val 5760 6144 (by omega) (by norm_num) (by norm_num))
    pointwise [fn, fn_part1, fn_part2, fn_part3, fn_part4, fn_part5]

set_option maxRecDepth 131072 in
/-- The patches of the nodes. -/
theorem patches {p} (hp : p = fn (F := Ideal) x0 x1 x2 x3 x4 x5 x6 x7 x8 x9 x10 x11 x12 x13 x14 x15 x16 x17 x18 x19) (h8 : p.2.2.2.2.2.2.2.2.1 = fun _ => 1#1) (n : Fin 147456) :
    x3 (ix1 n) = BitVec.ofNat 32 (n.val / 6144 * 24 + n.val % 384 / 16) := by
  subst hp
  refine (eq_of_cmpi _ _ (Eq.trans (Eq.symm ?_) (congrFun h8 (ix1 n)))).trans (patch_word n.val n.isLt)
  pointwise [fn, fn_part1, fn_part2, fn_part3, fn_part4, fn_part5]

/-- Equal numbers compare to one, and no others do. -/
theorem eq_of_oeq (x y : EReal) (h : BitVec.ofBool (decide (x = y)) = 1#1) : x = y := by
  by_contra hn
  rw [decide_eq_false hn] at h
  exact absurd h (by decide)

set_option maxRecDepth 131072 in
/-- The edges of a segment have the attributes of its first. -/
theorem attrs {p} (hp : p = fn (F := Ideal) x0 x1 x2 x3 x4 x5 x6 x7 x8 x9 x10 x11 x12 x13 x14 x15 x16 x17 x18 x19) (h9 : p.2.2.2.2.2.2.2.2.2.1 = fun _ => 1#1) (s : Fin 4) (e : Fin 138240) (k : Fin 2) :
    x2 (ix2 (at_ s e) k) = x2 (ix2 (at_ s 0) k) := by
  subst hp
  fin_cases s
  · refine (congrArg (fun z : Fin 552960 => x2 (ix2 z k)) (Fin.ext (show 138240 * 0 + e.val = e.val by omega))).trans
      ((eq_of_oeq (x2 (ix2 (⟨e.val, by omega⟩ : Fin 552960) k)) (x2 (ix2 0 k)) (Eq.trans (Eq.symm ?_) (congrFun h9 (ix3 0 e k)))).trans
        (congrArg (fun z : Fin 552960 => x2 (ix2 z k)) (Fin.ext rfl)))
    pointwise [fn, fn_part1, fn_part2, fn_part3, fn_part4, fn_part5]
  · refine (congrArg (fun z : Fin 552960 => x2 (ix2 z k)) (Fin.ext (show 138240 * 1 + e.val = 138240 + e.val by omega))).trans
      ((eq_of_oeq (x2 (ix2 (⟨138240 + e.val, by omega⟩ : Fin 552960) k)) (x2 (ix2 138240 k)) (Eq.trans (Eq.symm ?_) (congrFun h9 (ix3 1 e k)))).trans
        (congrArg (fun z : Fin 552960 => x2 (ix2 z k)) (Fin.ext rfl)))
    pointwise [fn, fn_part1, fn_part2, fn_part3, fn_part4, fn_part5]
  · refine (congrArg (fun z : Fin 552960 => x2 (ix2 z k)) (Fin.ext (show 138240 * 2 + e.val = 276480 + e.val by omega))).trans
      ((eq_of_oeq (x2 (ix2 (⟨276480 + e.val, by omega⟩ : Fin 552960) k)) (x2 (ix2 276480 k)) (Eq.trans (Eq.symm ?_) (congrFun h9 (ix3 2 e k)))).trans
        (congrArg (fun z : Fin 552960 => x2 (ix2 z k)) (Fin.ext rfl)))
    pointwise [fn, fn_part1, fn_part2, fn_part3, fn_part4, fn_part5]
  · refine (congrArg (fun z : Fin 552960 => x2 (ix2 z k)) (Fin.ext (show 138240 * 3 + e.val = 414720 + e.val by omega))).trans
      ((eq_of_oeq (x2 (ix2 (⟨414720 + e.val, by omega⟩ : Fin 552960) k)) (x2 (ix2 414720 k)) (Eq.trans (Eq.symm ?_) (congrFun h9 (ix3 3 e k)))).trans
        (congrArg (fun z : Fin 552960 => x2 (ix2 z k)) (Fin.ext rfl)))
    pointwise [fn, fn_part1, fn_part2, fn_part3, fn_part4, fn_part5]
end

end Cert.Pre_grid_graph

end
-- ==== Proof.PreNet.lean ====
/- The network whose numbers the argument arrays hold, under the precondition. -/
module

public import proofs.«01_k».proof.Proof.PreGrid

@[expose] public section

noncomputable section

namespace Cert.Pre_grid_graph

open Idealize.ShloMosaic Cert.Proof.Grid

/-- The network the arrays hold. -/
def net (x0 : FVec Ideal S147456x1 .f32) (x2 : FVec Ideal S552960x2 .f32) (x4 : FVec Ideal S1x8 .f32) (x5 : FVec Ideal S8 .f32) (x6 x7 : FVec Ideal S8x16 .f32) (x8 : FVec Ideal S2x16 .f32) (x9 : FVec Ideal S16 .f32) (x10 x11 : FVec Ideal S16x16 .f32) (x12 : FVec Ideal S2x16 .f32) (x13 : FVec Ideal S16 .f32) (x14 x15 : FVec Ideal S16x32 .f32) (x16 : FVec Ideal S2x32 .f32) (x17 : FVec Ideal S32 .f32) (x18 : FVec Ideal S32x1536 .f32) (x19 : FVec Ideal S512x32 .f32) : Net where
  x n := if h : n < 147456 then (x0 (ix2 ⟨n, h⟩ 0) : EReal).toReal else 0
  wf c := (x4 (ix2 0 c) : EReal).toReal
  bf c := (x5 (ix1 c) : EReal).toReal
  root0 c o := (x6 (ix2 c o) : EReal).toReal
  msg0 c o := (x7 (ix2 c o) : EReal).toReal
  gate0 s o := (Ideal.logistic (∑ k, x2 (ix2 (at_ s 0) k) * x8 (ix2 k o))).toReal
  b0 o := (x9 (ix1 o) : EReal).toReal
  root1 c o := (x10 (ix2 c o) : EReal).toReal
  msg1 c o := (x11 (ix2 c o) : EReal).toReal
  gate1 s o := (Ideal.logistic (∑ k, x2 (ix2 (at_ s 0) k) * x12 (ix2 k o))).toReal
  b1 o := (x13 (ix1 o) : EReal).toReal
  root2 c o := (x14 (ix2 c o) : EReal).toReal
  msg2 c o := (x15 (ix2 c o) : EReal).toReal
  gate2 s o := (Ideal.logistic (∑ k, x2 (ix2 (at_ s 0) k) * x16 (ix2 k o))).toReal
  b2 o := (x17 (ix1 o) : EReal).toReal
  wqkv c o := (x18 (ix2 c o) : EReal).toReal
  wout c o := (x19 (ix2 c o) : EReal).toReal

section
variable [Facts] {x0 : FVec Ideal S147456x1 .f32} {x1 : IVec S2x552960 32} {x2 : FVec Ideal S552960x2 .f32} {x3 : IVec S147456 32} {x4 : FVec Ideal S1x8 .f32} {x5 : FVec Ideal S8 .f32} {x6 x7 : FVec Ideal S8x16 .f32} {x8 : FVec Ideal S2x16 .f32} {x9 : FVec Ideal S16 .f32} {x10 x11 : FVec Ideal S16x16 .f32} {x12 : FVec Ideal S2x16 .f32} {x13 : FVec Ideal S16 .f32} {x14 x15 : FVec Ideal S16x32 .f32} {x16 : FVec Ideal S2x32 .f32} {x17 : FVec Ideal S32 .f32} {x18 : FVec Ideal S32x1536 .f32} {x19 : FVec Ideal S512x32 .f32}

/-- An edge's end, by its segment. -/
theorem end_of (r : Fin 2) (s : Fin 4) (e : Fin 138240) (k : Fin 552960) (a : ℕ) (h : x1 (ix2 r k) = BitVec.ofNat 32 a) (ha : a < 2 ^ 31)
    (hk : k.val = 138240 * s.val + e.val) : (x1 (ix2 r (at_ s e))).toInt = (a : ℤ) := by
  obtain rfl : k = at_ s e := Fin.ext hk
  exact toInt_word _ _ h ha

/-- The arrays hold it. -/
theorem meets {p} (hp : p = fn (F := Ideal) x0 x1 x2 x3 x4 x5 x6 x7 x8 x9 x10 x11 x12 x13 x14 x15 x16 x17 x18 x19) (h0 : p.1 = fun _ => 1#1) (h1 : p.2.1 = fun _ => 1#1) (h2 : p.2.2.1 = fun _ => 1#1) (h3 : p.2.2.2.1 = fun _ => 1#1) (h4 : p.2.2.2.2.1 = fun _ => 1#1) (h5 : p.2.2.2.2.2.1 = fun _ => 1#1) (h6 : p.2.2.2.2.2.2.1 = fun _ => 1#1) (h7 : p.2.2.2.2.2.2.2.1 = fun _ => 1#1) (h8 : p.2.2.2.2.2.2.2.2.1 = fun _ => 1#1) (h9 : p.2.2.2.2.2.2.2.2.2.1 = fun _ => 1#1) (h10 : p.2.2.2.2.2.2.2.2.2.2.1 = fun _ => 1#1) (h11 : p.2.2.2.2.2.2.2.2.2.2.2.1 = fun _ => 1#1) (h12 : p.2.2.2.2.2.2.2.2.2.2.2.2.1 = fun _ => 1#1) (h13 : p.2.2.2.2.2.2.2.2.2.2.2.2.2.1 = fun _ => 1#1) (h14 : p.2.2.2.2.2.2.2.2.2.2.2.2.2.2.1 = fun _ => 1#1) (h15 : p.2.2.2.2.2.2.2.2.2.2.2.2.2.2.2.1 = fun _ => 1#1) (h16 : p.2.2.2.2.2.2.2.2.2.2.2.2.2.2.2.2.1 = fun _ => 1#1) (h17 : p.2.2.2.2.2.2.2.2.2.2.2.2.2.2.2.2.2.1 = fun _ => 1#1) (h18 : p.2.2.2.2.2.2.2.2.2.2.2.2.2.2.2.2.2.2.1 = fun _ => 1#1) (h19 : p.2.2.2.2.2.2.2.2.2.2.2.2.2.2.2.2.2.2.2.1 = fun _ => 1#1) (h20 : p.2.2.2.2.2.2.2.2.2.2.2.2.2.2.2.2.2.2.2.2.1 = fun _ => 1#1) (h21 : p.2.2.2.2.2.2.2.2.2.2.2.2.2.2.2.2.2.2.2.2.2.1 = fun _ => 1#1) (h22 : p.2.2.2.2.2.2.2.2.2.2.2.2.2.2.2.2.2.2.2.2.2.2.1 = fun _ => 1#1) (h23 : p.2.2.2.2.2.2.2.2.2.2.2.2.2.2.2.2.2.2.2.2.2.2.2 = fun _ => 1#1) :
    Meets (net x0 x2 x4 x5 x6 x7 x8 x9 x10 x11 x12 x13 x14 x15 x16 x17 x18 x19) x0 x1 x2 x3 x4 x5 x6 x7 x8 x9 x10 x11 x12 x13 x14 x15 x16 x17 x18 x19 where
  src s e := by
    obtain ⟨e0, e1, e2, e3, e4, e5, e6, e7⟩ := edges hp h0 h1 h2 h3 h4 h5 h6 h7 e
    fin_cases s
    · exact end_of 0 0 e _ (hor e.val) e0 (by unfold hor; omega) (show e.val = 138240 * 0 + e.val by omega)
    · exact end_of 0 1 e _ (hor e.val + 1) e2 (by unfold hor; omega) (show 138240 + e.val = 138240 * 1 + e.val by omega)
    · exact end_of 0 2 e _ (ver e.val) e4 (by unfold ver; omega) (show 276480 + e.val = 138240 * 2 + e.val by omega)
    · exact end_of 0 3 e _ (ver e.val + 384) e6 (by unfold ver; omega) (show 414720 + e.val = 138240 * 3 + e.val by omega)
  dst s e := by
    obtain ⟨e0, e1, e2, e3, e4, e5, e6, e7⟩ := edges hp h0 h1 h2 h3 h4 h5 h6 h7 e
    fin_cases s
    · exact end_of 1 0 e _ (hor e.val + 1) e1 (by unfold hor; omega) (show e.val = 138240 * 0 + e.val by omega)
    · exact end_of 1 1 e _ (hor e.val) e3 (by unfold hor; omega) (show 138240 + e.val = 138240 * 1 + e.val by omega)
    · exact end_of 1 2 e _ (ver e.val + 384) e5 (by unfold ver; omega) (show 276480 + e.val = 138240 * 2 + e.val by omega)
    · exact end_of 1 3 e _ (ver e.val) e7 (by unfold ver; omega) (show 414720 + e.val = 138240 * 3 + e.val by omega)
  attr := attrs hp h9
  patch n := toInt_word _ _ (patches hp h8 n) (by omega)
  x n := by
    subst hp
    refine (real_of_finite x0 _ h10 (ix2 n 0)).trans (congrArg Real.toEReal ?_)
    show (x0 (ix2 n 0) : EReal).toReal = if h : n.val < 147456 then (x0 (ix2 ⟨n.val, h⟩ 0) : EReal).toReal else 0
    rw [dif_pos n.isLt]
  wf c := by subst hp; exact real_of_finite x4 _ h11 (ix2 0 c)
  bf c := by subst hp; exact real_of_finite x5 _ h12 (ix1 c)
  root0 c o := by subst hp; exact real_of_finite x6 _ h13 (ix2 c o)
  msg0 c o := by subst hp; exact real_of_finite x7 _ h14 (ix2 c o)
  gate0 s o := logistic_real _
  b0 o := by subst hp; exact real_of_finite x9 _ h15 (ix1 o)
  root1 c o := by subst hp; exact real_of_finite x10 _ h16 (ix2 c o)
  msg1 c o := by subst hp; exact real_of_finite x11 _ h17 (ix2 c o)
  gate1 s o := logistic_real _
  b1 o := by subst hp; exact real_of_finite x13 _ h18 (ix1 o)
  root2 c o := by subst hp; exact real_of_finite x14 _ h19 (ix2 c o)
  msg2 c o := by subst hp; exact real_of_finite x15 _ h20 (ix2 c o)
  gate2 s o := logistic_real _
  b2 o := by subst hp; exact real_of_finite x17 _ h21 (ix1 o)
  wqkv c o := by subst hp; exact real_of_finite x18 _ h22 (ix2 c o)
  wout c o := by subst hp; exact real_of_finite x19 _ h23 (ix2 c o)

end

end Cert.Pre_grid_graph

end
-- ==== Proof.Algebraic.lean ====
/- The value claim: under the precondition the kernel at exact arithmetic and the reference compute the same array. -/
module

public import proofs.«01_k».proof.Defs
public import proofs.«01_k».proof.Proof.Gen.KernelIdeal
public import proofs.«01_k».proof.Proof.Gen.ReferenceIdeal.Run
public import proofs.«01_k».proof.Proof.Gen.ReferenceIdeal.Read
public import proofs.«01_k».proof.Proof.Gen.Pre_grid_graph
public import proofs.«01_k».proof.Proof.KernelFrame
public import proofs.«01_k».proof.Proof.KernelTokens
public import proofs.«01_k».proof.Proof.KernelAttention
public import proofs.«01_k».proof.Proof.RefAttention
public import proofs.«01_k».proof.Proof.PreNet

@[expose] public section

noncomputable section

namespace Cert.Proof

open Idealize.ShloMosaic Idealize.SL.Sem Cert.Proof.Grid

open Cert.KernelIdeal Cert.KernelIdeal.Gen in
/-- Under the precondition a network's numbers are in the kernel's arguments. -/
theorem meets_of_pre (m : (ℓ : Loc nD τ sig) → Buf (Elt Ideal) ℓ) (hpre : Cert.Pre_KernelIdeal_grid_graph m) (c : Dev nD) :
    ∃ N, Meets N (m ((c.tc (τ := τ)).loc main_arg0)) (m ((c.tc (τ := τ)).loc main_arg1)) (m ((c.tc (τ := τ)).loc main_arg2))
      (m ((c.tc (τ := τ)).loc main_arg3)) (m ((c.tc (τ := τ)).loc main_arg4)) (m ((c.tc (τ := τ)).loc main_arg5))
      (m ((c.tc (τ := τ)).loc main_arg6)) (m ((c.tc (τ := τ)).loc main_arg7)) (m ((c.tc (τ := τ)).loc main_arg8))
      (m ((c.tc (τ := τ)).loc main_arg9)) (m ((c.tc (τ := τ)).loc main_arg10)) (m ((c.tc (τ := τ)).loc main_arg11))
      (m ((c.tc (τ := τ)).loc main_arg12)) (m ((c.tc (τ := τ)).loc main_arg13)) (m ((c.tc (τ := τ)).loc main_arg14))
      (m ((c.tc (τ := τ)).loc main_arg15)) (m ((c.tc (τ := τ)).loc main_arg16)) (m ((c.tc (τ := τ)).loc main_arg17))
      (m ((c.tc (τ := τ)).loc main_arg18)) (m ((c.tc (τ := τ)).loc main_arg19)) := by
  obtain ⟨h0, h1, h2, h3, h4, h5, h6, h7, h8, h9, h10, h11, h12, h13, h14, h15, h16, h17, h18, h19, h20, h21, h22, h23⟩ := hpre c
  exact ⟨_, Cert.Pre_grid_graph.meets rfl h0 h1 h2 h3 h4 h5 h6 h7 h8 h9 h10 h11 h12 h13 h14 h15 h16 h17 h18 h19 h20 h21 h22 h23⟩

open Cert.KernelIdeal Cert.KernelIdeal.Gen Cert.KernelIdeal.Tile in
/-- The kernel's result is the network's. -/
theorem result_real (m : (ℓ : Loc nD τ sig) → Buf (Elt Ideal) ℓ) (c : Dev nD) (N : Net) (hN : Meets N (m ((c.tc (τ := τ)).loc main_arg0)) (m ((c.tc (τ := τ)).loc main_arg1)) (m ((c.tc (τ := τ)).loc main_arg2)) (m ((c.tc (τ := τ)).loc main_arg3)) (m ((c.tc (τ := τ)).loc main_arg4)) (m ((c.tc (τ := τ)).loc main_arg5)) (m ((c.tc (τ := τ)).loc main_arg6)) (m ((c.tc (τ := τ)).loc main_arg7)) (m ((c.tc (τ := τ)).loc main_arg8)) (m ((c.tc (τ := τ)).loc main_arg9)) (m ((c.tc (τ := τ)).loc main_arg10)) (m ((c.tc (τ := τ)).loc main_arg11)) (m ((c.tc (τ := τ)).loc main_arg12)) (m ((c.tc (τ := τ)).loc main_arg13)) (m ((c.tc (τ := τ)).loc main_arg14)) (m ((c.tc (τ := τ)).loc main_arg15)) (m ((c.tc (τ := τ)).loc main_arg16)) (m ((c.tc (τ := τ)).loc main_arg17)) (m ((c.tc (τ := τ)).loc main_arg18)) (m ((c.tc (τ := τ)).loc main_arg19))) (o : Fin 32) :
    (result m c lastPt : S1x32.Idx → EReal) (ix2 0 o) = ((N.out o : ℝ) : EReal) :=
  attention_real _ _ _ (tokens_real m c hN) (fun k j => (op16 m c lastPt k j).trans (hN.wqkv k j)) (fun k j => (op17 m c lastPt k j).trans (hN.wout k j)) o

/-- The kernel at exact arithmetic computes what the reference computes. -/
theorem algebraic : Cert.algebraic_KernelIdeal_ReferenceIdeal_pre_grid_graph := by
  intro m g m' g' hpre hagree
  refine ⟨_, Cert.KernelIdeal.Tile.run_value m g, ?_⟩
  refine (θ_run Cert.ReferenceIdeal.defs _ _).mono (fun r h c => ⟨(h c).1.trans ?_, (h c).2⟩) (Cert.ReferenceIdeal.Value.run (F := Ideal) m' g')
  obtain ⟨N, hN⟩ := meets_of_pre m hpre c
  refine (Cert.ReferenceIdeal.Read.val_main_v163_eq (F := Ideal) _).trans ?_
  obtain ⟨a0, a1, a2, a3, a4, a5, a6, a7, a8, a9, a10, a11, a12, a13, a14, a15, a16, a17, a18, a19⟩ := hagree c
  have hN' := hN
  rw [← a0, ← a1, ← a2, ← a3, ← a4, ← a5, ← a6, ← a7, ← a8, ← a9, ← a10, ← a11, ← a12, ← a13, ← a14, ← a15, ← a16, ← a17, ← a18, ← a19] at hN'
  funext j
  obtain ⟨o, rfl⟩ : ∃ o : Fin 32, j = ix2 0 o := ⟨j 1, funext fun a => by
    match a with
    | ⟨0, _⟩ => exact Subsingleton.elim (α := Fin 1) _ _
    | ⟨1, _⟩ => rfl⟩
  exact (Cert.ReferenceIdeal.Rows.result_real hN' o).trans (result_real m c N hN o).symm

end Cert.Proof

end
-- ==== Proof.lean ====
/- The certificate's claim, assembled from the modules of Proof/Proof. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_grid_graph
public import proofs.«01_k».proof.Proof.Frames
public import proofs.«01_k».proof.Proof.Algebraic

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Pre_grid_graph.Gen.facts,
    frame_kernel, frame_ideal, frame_ideal_pre, frame_reference, frame_reference_pre, preserves, algebraic⟩

end Cert.Proof

end
